-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S40x2 : Shape := ⟨2, ![40, 2]⟩
abbrev S256x16384 : Shape := ⟨2, ![256, 16384]⟩
abbrev S256 : Shape := ⟨1, ![256]⟩
abbrev S256x256 : Shape := ⟨2, ![256, 256]⟩
abbrev S64x256 : Shape := ⟨2, ![64, 256]⟩
abbrev S1x256 : Shape := ⟨2, ![1, 256]⟩
abbrev S1x64x256 : Shape := ⟨3, ![1, 64, 256]⟩
abbrev S1 : Shape := ⟨1, ![1]⟩
abbrev S1x1x1 : Shape := ⟨3, ![1, 1, 1]⟩
abbrev S1x1 : Shape := ⟨2, ![1, 1]⟩
abbrev S63x256 : Shape := ⟨2, ![63, 256]⟩
abbrev S2x256 : Shape := ⟨2, ![2, 256]⟩
abbrev S62x256 : Shape := ⟨2, ![62, 256]⟩
abbrev S4x256 : Shape := ⟨2, ![4, 256]⟩
abbrev S60x256 : Shape := ⟨2, ![60, 256]⟩
abbrev S8x256 : Shape := ⟨2, ![8, 256]⟩
abbrev S56x256 : Shape := ⟨2, ![56, 256]⟩
abbrev S16x256 : Shape := ⟨2, ![16, 256]⟩
abbrev S48x256 : Shape := ⟨2, ![48, 256]⟩
abbrev S32x256 : Shape := ⟨2, ![32, 256]⟩
abbrev S_ : Shape := ⟨0, ![]⟩

abbrev nBuf : Space → Nat
  | .hbm => 7
  | .vmem => 4
  | .smem => 1
  | _ => 0

abbrev bufTy : (tb : Table) → Fin (tcTables nBuf tb) → BufTy
  | .hbm, ⟨0, _⟩ => ⟨S16384, .f32⟩
  | .hbm, ⟨1, _⟩ => ⟨S40x2, .i32⟩
  | .hbm, ⟨2, _⟩ => ⟨S256x16384, .i32⟩
  | .hbm, ⟨3, _⟩ => ⟨S_, .i32⟩
  | .hbm, ⟨4, _⟩ => ⟨S256x16384, .i32⟩
  | .hbm, ⟨5, _⟩ => ⟨S256x16384, .i1⟩
  | .hbm, ⟨6, _⟩ => ⟨S256x16384, .i1⟩
  | .local _ .vmem, ⟨0, _⟩ => ⟨S256, .f32⟩
  | .local _ .vmem, ⟨1, _⟩ => ⟨S256, .f32⟩
  | .local _ .vmem, ⟨2, _⟩ => ⟨S256x256, .i32⟩
  | .local _ .vmem, ⟨3, _⟩ => ⟨S256x256, .i32⟩
  | .local _ .smem, ⟨0, _⟩ => ⟨S40x2, .i32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def k0_off1 (arg4 : BitVec 32) : Fin 2 → Nat :=
  let v176 : Index := Scalar.indexCast arg4
  let c0_44 : Index := 0#32
  ![v176.toNat, 0]

def k0_off2 (arg4 : BitVec 32) : Fin 2 → Nat :=
  let v178 : Index := Scalar.indexCast arg4
  let c1 : Index := 1#32
  ![v178.toNat, 1]

def k0_chk1 (arg4 : BitVec 32) : Prop :=
  (∀ a, (k0_off1 arg4) a + S1x1.size a ≤ S40x2.size a) ∧
  (∀ a, (k0_off2 arg4) a + S1x1.size a ≤ S40x2.size a)
theorem k0_off1_inb : ∀ (arg4 : BitVec 32) (k0_hw1 : k0_chk1 arg4), ∀ a, (k0_off1 arg4) a + S1x1.size a ≤ S40x2.size a := fun arg4 k0_hw1 => k0_hw1.1
theorem k0_off2_inb : ∀ (arg4 : BitVec 32) (k0_hw1 : k0_chk1 arg4), ∀ a, (k0_off2 arg4) a + S1x1.size a ≤ S40x2.size a := fun arg4 k0_hw1 => k0_hw1.2

def k0_off3 (arg4 : BitVec 32) : Fin 2 → Nat :=
  let v176 : Index := Scalar.indexCast arg4
  let c0_44 : Index := 0#32
  ![v176.toNat, 0]

def k0_off4 (arg4 : BitVec 32) : Fin 2 → Nat :=
  let v178 : Index := Scalar.indexCast arg4
  let c1 : Index := 1#32
  ![v178.toNat, 1]

def k0_chk2 (arg4 : BitVec 32) : Prop :=
  (∀ a, (k0_off3 arg4) a + S1x1.size a ≤ S40x2.size a) ∧
  (∀ a, (k0_off4 arg4) a + S1x1.size a ≤ S40x2.size a)
theorem k0_off3_inb : ∀ (arg4 : BitVec 32) (k0_hw2 : k0_chk2 arg4), ∀ a, (k0_off3 arg4) a + S1x1.size a ≤ S40x2.size a := fun arg4 k0_hw2 => k0_hw2.1
theorem k0_off4_inb : ∀ (arg4 : BitVec 32) (k0_hw2 : k0_chk2 arg4), ∀ a, (k0_off4 arg4) a + S1x1.size a ≤ S40x2.size a := fun arg4 k0_hw2 => k0_hw2.2

def k0_off5 (arg4 : BitVec 32) : Fin 2 → Nat :=
  let v176 : Index := Scalar.indexCast arg4
  let c0_44 : Index := 0#32
  ![v176.toNat, 0]

def k0_off6 (arg4 : BitVec 32) : Fin 2 → Nat :=
  let v178 : Index := Scalar.indexCast arg4
  let c1 : Index := 1#32
  ![v178.toNat, 1]

def k0_chk3 (arg4 : BitVec 32) : Prop :=
  (∀ a, (k0_off5 arg4) a + S1x1.size a ≤ S40x2.size a) ∧
  (∀ a, (k0_off6 arg4) a + S1x1.size a ≤ S40x2.size a)
theorem k0_off5_inb : ∀ (arg4 : BitVec 32) (k0_hw3 : k0_chk3 arg4), ∀ a, (k0_off5 arg4) a + S1x1.size a ≤ S40x2.size a := fun arg4 k0_hw3 => k0_hw3.1
theorem k0_off6_inb : ∀ (arg4 : BitVec 32) (k0_hw3 : k0_chk3 arg4), ∀ a, (k0_off6 arg4) a + S1x1.size a ≤ S40x2.size a := fun arg4 k0_hw3 => k0_hw3.2

def k0_off7 (arg4 : BitVec 32) : Fin 2 → Nat :=
  let v176 : Index := Scalar.indexCast arg4
  let c0_44 : Index := 0#32
  ![v176.toNat, 0]

def k0_off8 (arg4 : BitVec 32) : Fin 2 → Nat :=
  let v178 : Index := Scalar.indexCast arg4
  let c1 : Index := 1#32
  ![v178.toNat, 1]

def k0_chk4 (arg4 : BitVec 32) : Prop :=
  (∀ a, (k0_off7 arg4) a + S1x1.size a ≤ S40x2.size a) ∧
  (∀ a, (k0_off8 arg4) a + S1x1.size a ≤ S40x2.size a)
theorem k0_off7_inb : ∀ (arg4 : BitVec 32) (k0_hw4 : k0_chk4 arg4), ∀ a, (k0_off7 arg4) a + S1x1.size a ≤ S40x2.size a := fun arg4 k0_hw4 => k0_hw4.1
theorem k0_off8_inb : ∀ (arg4 : BitVec 32) (k0_hw4 : k0_chk4 arg4), ∀ a, (k0_off8 arg4) a + S1x1.size a ≤ S40x2.size a := fun arg4 k0_hw4 => k0_hw4.2

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S40x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384 : Shape := ⟨1, ![16384]⟩
abbrev S_ : Shape := ⟨0, ![]⟩
abbrev S1 : Shape := ⟨1, ![1]⟩
abbrev S2 : Shape := ⟨1, ![2]⟩
abbrev S16384x1 : Shape := ⟨2, ![16384, 1]⟩
abbrev S16384x256 : Shape := ⟨2, ![16384, 256]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S256 : Shape := ⟨1, ![256]⟩
abbrev S1x256 : Shape := ⟨2, ![1, 256]⟩
abbrev S256x16384 : Shape := ⟨2, ![256, 16384]⟩

abbrev nBuf : Space → Nat
  | .hbm => 802
  | .vmem => 0
  | .smem => 0
  | _ => 0

abbrev hbmTy0_0 (i : Nat) : BufTy := match i % 128 with
  | 0 => ⟨S16384, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S16384, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S16384x1, .f32⟩
  | 121 => ⟨S16384x256, .f32⟩
  | 122 => ⟨S_, .i32⟩
  | 123 => ⟨S16384x256, .i32⟩
  | 124 => ⟨S_, .f32⟩
  | 125 => ⟨S16384x256, .f32⟩
  | 126 => ⟨S_, .i32⟩
  | 127 => ⟨S_, .i32⟩
  | _ => ⟨S16384, .f32⟩

abbrev hbmTy0_2 (i : Nat) : BufTy := match i % 128 with
  | 0 => ⟨S16384x256, .f32⟩
  | 1 => ⟨S_, .i32⟩
  | 2 => ⟨S_, .i32⟩
  | 3 => ⟨S16384x256, .i32⟩
  | 4 => ⟨S2, .i32⟩
  | 5 => ⟨S16384x256, .f32⟩
  | 6 => ⟨S_, .i32⟩
  | 7 => ⟨S_, .i1⟩
  | 8 => ⟨S_, .i32⟩
  | 9 => ⟨S_, .i32⟩
  | 10 => ⟨S1, .i32⟩
  | 11 => ⟨S_, .i32⟩
  | 12 => ⟨S1, .i32⟩
  | 13 => ⟨S_, .i32⟩
  | 14 => ⟨S2, .i64⟩
  | 15 => ⟨S_, .i64⟩
  | 16 => ⟨S2, .i64⟩
  | 17 => ⟨S2, .i64⟩
  | 18 => ⟨S_, .i64⟩
  | 19 => ⟨S2, .i64⟩
  | 20 => ⟨S2, .i64⟩
  | 21 => ⟨S2, .i32⟩
  | 22 => ⟨S2, .i32⟩
  | 23 => ⟨S_, .i32⟩
  | 24 => ⟨S_, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16384, .f32⟩

abbrev hbmTy0_3 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2x1, .i32⟩
  | 118 => ⟨S2x1, .i32⟩
  | 119 => ⟨S2x2, .i32⟩
  | 120 => ⟨S1x2, .i32⟩
  | 121 => ⟨S2, .i32⟩
  | 122 => ⟨S1x2, .i32⟩
  | 123 => ⟨S2, .i32⟩
  | 124 => ⟨S16384x256, .f32⟩
  | 125 => ⟨S16384x256, .i1⟩
  | 126 => ⟨S_, .i32⟩
  | 127 => ⟨S16384x256, .i32⟩
  | _ => ⟨S16384, .f32⟩

abbrev hbmTy0_4 (i : Nat) : BufTy := match i % 128 with
  | 0 => ⟨S16384x256, .i32⟩
  | 1 => ⟨S16384x256, .i32⟩
  | 2 => ⟨S_, .f32⟩
  | 3 => ⟨S_, .f32⟩
  | 4 => ⟨S_, .f32⟩
  | 5 => ⟨S_, .f32⟩
  | 6 => ⟨S1x1, .f32⟩
  | 7 => ⟨S1x1, .f32⟩
  | 8 => ⟨S1, .i32⟩
  | 9 => ⟨S_, .i32⟩
  | 10 => ⟨S1, .i32⟩
  | 11 => ⟨S_, .i32⟩
  | 12 => ⟨S16384x256, .i64⟩
  | 13 => ⟨S16384x256, .i64⟩
  | 14 => ⟨S_, .i64⟩
  | 15 => ⟨S16384x256, .i64⟩
  | 16 => ⟨S16384x256, .i64⟩
  | 17 => ⟨S_, .i64⟩
  | 18 => ⟨S16384x256, .i64⟩
  | 19 => ⟨S16384x256, .i64⟩
  | 20 => ⟨S16384x256, .i64⟩
  | 21 => ⟨S_, .i64⟩
  | 22 => ⟨S16384x256, .i64⟩
  | 23 => ⟨S16384x256, .i64⟩
  | 24 => ⟨S16384x256, .i32⟩
  | 25 => ⟨S16384x256, .i32⟩
  | 26 => ⟨S_, .i32⟩
  | 27 => ⟨S_, .i32⟩
  | 28 => ⟨S_, .i32⟩
  | 29 => ⟨S16384x256, .i32⟩
  | 30 => ⟨S16384x256, .i32⟩
  | 31 => ⟨S16384x256, .i32⟩
  | 32 => ⟨S16384x256, .i32⟩
  | 33 => ⟨S16384x256, .i32⟩
  | 34 => ⟨S_, .i32⟩
  | 35 => ⟨S16384x256, .i32⟩
  | 36 => ⟨S16384x256, .i32⟩
  | 37 => ⟨S_, .i32⟩
  | 38 => ⟨S16384x256, .i32⟩
  | 39 => ⟨S16384x256, .i32⟩
  | 40 => ⟨S16384x256, .i32⟩
  | 41 => ⟨S16384x256, .i32⟩
  | 42 => ⟨S16384x256, .i32⟩
  | 43 => ⟨S_, .i32⟩
  | 44 => ⟨S16384x256, .i32⟩
  | 45 => ⟨S16384x256, .i32⟩
  | 46 => ⟨S_, .i32⟩
  | 47 => ⟨S16384x256, .i32⟩
  | 48 => ⟨S16384x256, .i32⟩
  | 49 => ⟨S16384x256, .i32⟩
  | 50 => ⟨S16384x256, .i32⟩
  | 51 => ⟨S16384x256, .i32⟩
  | 52 => ⟨S_, .i32⟩
  | 53 => ⟨S16384x256, .i32⟩
  | 54 => ⟨S16384x256, .i32⟩
  | 55 => ⟨S_, .i32⟩
  | 56 => ⟨S16384x256, .i32⟩
  | 57 => ⟨S16384x256, .i32⟩
  | 58 => ⟨S16384x256, .i32⟩
  | 59 => ⟨S16384x256, .i32⟩
  | 60 => ⟨S16384x256, .i32⟩
  | 61 => ⟨S_, .i32⟩
  | 62 => ⟨S16384x256, .i32⟩
  | 63 => ⟨S16384x256, .i32⟩
  | 64 => ⟨S_, .i32⟩
  | 65 => ⟨S16384x256, .i32⟩
  | 66 => ⟨S16384x256, .i32⟩
  | 67 => ⟨S16384x256, .i32⟩
  | 68 => ⟨S16384x256, .i32⟩
  | 69 => ⟨S16384x256, .i32⟩
  | 70 => ⟨S16384x256, .i32⟩
  | 71 => ⟨S16384x256, .i32⟩
  | 72 => ⟨S16384x256, .i32⟩
  | 73 => ⟨S_, .i32⟩
  | 74 => ⟨S16384x256, .i32⟩
  | 75 => ⟨S16384x256, .i32⟩
  | 76 => ⟨S16384x256, .i32⟩
  | 77 => ⟨S_, .i32⟩
  | 78 => ⟨S16384x256, .i32⟩
  | 79 => ⟨S16384x256, .i32⟩
  | 80 => ⟨S_, .i32⟩
  | 81 => ⟨S16384x256, .i32⟩
  | 82 => ⟨S16384x256, .i32⟩
  | 83 => ⟨S16384x256, .i32⟩
  | 84 => ⟨S16384x256, .i32⟩
  | 85 => ⟨S16384x256, .i32⟩
  | 86 => ⟨S_, .i32⟩
  | 87 => ⟨S16384x256, .i32⟩
  | 88 => ⟨S16384x256, .i32⟩
  | 89 => ⟨S_, .i32⟩
  | 90 => ⟨S16384x256, .i32⟩
  | 91 => ⟨S16384x256, .i32⟩
  | 92 => ⟨S16384x256, .i32⟩
  | 93 => ⟨S16384x256, .i32⟩
  | 94 => ⟨S16384x256, .i32⟩
  | 95 => ⟨S_, .i32⟩
  | 96 => ⟨S16384x256, .i32⟩
  | 97 => ⟨S16384x256, .i32⟩
  | 98 => ⟨S_, .i32⟩
  | 99 => ⟨S16384x256, .i32⟩
  | 100 => ⟨S16384x256, .i32⟩
  | 101 => ⟨S16384x256, .i32⟩
  | 102 => ⟨S16384x256, .i32⟩
  | 103 => ⟨S16384x256, .i32⟩
  | 104 => ⟨S_, .i32⟩
  | 105 => ⟨S16384x256, .i32⟩
  | 106 => ⟨S16384x256, .i32⟩
  | 107 => ⟨S_, .i32⟩
  | 108 => ⟨S16384x256, .i32⟩
  | 109 => ⟨S16384x256, .i32⟩
  | 110 => ⟨S16384x256, .i32⟩
  | 111 => ⟨S16384x256, .i32⟩
  | 112 => ⟨S16384x256, .i32⟩
  | 113 => ⟨S16384x256, .i32⟩
  | 114 => ⟨S16384x256, .i32⟩
  | 115 => ⟨S16384x256, .i32⟩
  | 116 => ⟨S_, .i32⟩
  | 117 => ⟨S16384x256, .i32⟩
  | 118 => ⟨S16384x256, .i32⟩
  | 119 => ⟨S16384x256, .i32⟩
  | 120 => ⟨S_, .i32⟩
  | 121 => ⟨S16384x256, .i32⟩
  | 122 => ⟨S16384x256, .i32⟩
  | 123 => ⟨S_, .i32⟩
  | 124 => ⟨S16384x256, .i32⟩
  | 125 => ⟨S16384x256, .i32⟩
  | 126 => ⟨S16384x256, .i32⟩
  | 127 => ⟨S16384x256, .i32⟩
  | _ => ⟨S16384, .f32⟩

abbrev hbmTy0_5 (i : Nat) : BufTy := match i % 128 with
  | 0 => ⟨S16384x256, .i32⟩
  | 1 => ⟨S_, .i32⟩
  | 2 => ⟨S16384x256, .i32⟩
  | 3 => ⟨S16384x256, .i32⟩
  | 4 => ⟨S_, .i32⟩
  | 5 => ⟨S16384x256, .i32⟩
  | 6 => ⟨S16384x256, .i32⟩
  | 7 => ⟨S16384x256, .i32⟩
  | 8 => ⟨S16384x256, .i32⟩
  | 9 => ⟨S16384x256, .i32⟩
  | 10 => ⟨S_, .i32⟩
  | 11 => ⟨S16384x256, .i32⟩
  | 12 => ⟨S16384x256, .i32⟩
  | 13 => ⟨S_, .i32⟩
  | 14 => ⟨S16384x256, .i32⟩
  | 15 => ⟨S16384x256, .i32⟩
  | 16 => ⟨S16384x256, .i32⟩
  | 17 => ⟨S16384x256, .i32⟩
  | 18 => ⟨S16384x256, .i32⟩
  | 19 => ⟨S_, .i32⟩
  | 20 => ⟨S16384x256, .i32⟩
  | 21 => ⟨S16384x256, .i32⟩
  | 22 => ⟨S_, .i32⟩
  | 23 => ⟨S16384x256, .i32⟩
  | 24 => ⟨S16384x256, .i32⟩
  | 25 => ⟨S16384x256, .i32⟩
  | 26 => ⟨S16384x256, .i32⟩
  | 27 => ⟨S16384x256, .i32⟩
  | 28 => ⟨S16384x256, .i32⟩
  | 29 => ⟨S16384x256, .i32⟩
  | 30 => ⟨S16384x256, .i32⟩
  | 31 => ⟨S_, .i32⟩
  | 32 => ⟨S16384x256, .i32⟩
  | 33 => ⟨S16384x256, .i32⟩
  | 34 => ⟨S16384x256, .i32⟩
  | 35 => ⟨S_, .i32⟩
  | 36 => ⟨S16384x256, .i32⟩
  | 37 => ⟨S16384x256, .i32⟩
  | 38 => ⟨S_, .i32⟩
  | 39 => ⟨S16384x256, .i32⟩
  | 40 => ⟨S16384x256, .i32⟩
  | 41 => ⟨S16384x256, .i32⟩
  | 42 => ⟨S16384x256, .i32⟩
  | 43 => ⟨S16384x256, .i32⟩
  | 44 => ⟨S_, .i32⟩
  | 45 => ⟨S16384x256, .i32⟩
  | 46 => ⟨S16384x256, .i32⟩
  | 47 => ⟨S_, .i32⟩
  | 48 => ⟨S16384x256, .i32⟩
  | 49 => ⟨S16384x256, .i32⟩
  | 50 => ⟨S16384x256, .i32⟩
  | 51 => ⟨S16384x256, .i32⟩
  | 52 => ⟨S16384x256, .i32⟩
  | 53 => ⟨S_, .i32⟩
  | 54 => ⟨S16384x256, .i32⟩
  | 55 => ⟨S16384x256, .i32⟩
  | 56 => ⟨S_, .i32⟩
  | 57 => ⟨S16384x256, .i32⟩
  | 58 => ⟨S16384x256, .i32⟩
  | 59 => ⟨S16384x256, .i32⟩
  | 60 => ⟨S16384x256, .i32⟩
  | 61 => ⟨S16384x256, .i32⟩
  | 62 => ⟨S_, .i32⟩
  | 63 => ⟨S16384x256, .i32⟩
  | 64 => ⟨S16384x256, .i32⟩
  | 65 => ⟨S_, .i32⟩
  | 66 => ⟨S16384x256, .i32⟩
  | 67 => ⟨S16384x256, .i32⟩
  | 68 => ⟨S16384x256, .i32⟩
  | 69 => ⟨S16384x256, .i32⟩
  | 70 => ⟨S16384x256, .i32⟩
  | 71 => ⟨S16384x256, .i32⟩
  | 72 => ⟨S16384x256, .i32⟩
  | 73 => ⟨S16384x256, .i32⟩
  | 74 => ⟨S_, .i32⟩
  | 75 => ⟨S16384x256, .i32⟩
  | 76 => ⟨S16384x256, .i32⟩
  | 77 => ⟨S16384x256, .i32⟩
  | 78 => ⟨S_, .i32⟩
  | 79 => ⟨S16384x256, .i32⟩
  | 80 => ⟨S16384x256, .i32⟩
  | 81 => ⟨S_, .i32⟩
  | 82 => ⟨S16384x256, .i32⟩
  | 83 => ⟨S16384x256, .i32⟩
  | 84 => ⟨S16384x256, .i32⟩
  | 85 => ⟨S16384x256, .i32⟩
  | 86 => ⟨S16384x256, .i32⟩
  | 87 => ⟨S_, .i32⟩
  | 88 => ⟨S16384x256, .i32⟩
  | 89 => ⟨S16384x256, .i32⟩
  | 90 => ⟨S_, .i32⟩
  | 91 => ⟨S16384x256, .i32⟩
  | 92 => ⟨S16384x256, .i32⟩
  | 93 => ⟨S16384x256, .i32⟩
  | 94 => ⟨S16384x256, .i32⟩
  | 95 => ⟨S16384x256, .i32⟩
  | 96 => ⟨S_, .i32⟩
  | 97 => ⟨S16384x256, .i32⟩
  | 98 => ⟨S16384x256, .i32⟩
  | 99 => ⟨S_, .i32⟩
  | 100 => ⟨S16384x256, .i32⟩
  | 101 => ⟨S16384x256, .i32⟩
  | 102 => ⟨S16384x256, .i32⟩
  | 103 => ⟨S16384x256, .i32⟩
  | 104 => ⟨S16384x256, .i32⟩
  | 105 => ⟨S_, .i32⟩
  | 106 => ⟨S16384x256, .i32⟩
  | 107 => ⟨S16384x256, .i32⟩
  | 108 => ⟨S_, .i32⟩
  | 109 => ⟨S16384x256, .i32⟩
  | 110 => ⟨S16384x256, .i32⟩
  | 111 => ⟨S16384x256, .i32⟩
  | 112 => ⟨S16384x256, .i32⟩
  | 113 => ⟨S16384x256, .i32⟩
  | 114 => ⟨S16384x256, .i32⟩
  | 115 => ⟨S16384x256, .i32⟩
  | 116 => ⟨S16384x256, .i32⟩
  | 117 => ⟨S_, .i32⟩
  | 118 => ⟨S16384x256, .i32⟩
  | 119 => ⟨S16384x256, .i32⟩
  | 120 => ⟨S16384x256, .i32⟩
  | 121 => ⟨S_, .i32⟩
  | 122 => ⟨S16384x256, .i32⟩
  | 123 => ⟨S16384x256, .i32⟩
  | 124 => ⟨S_, .i32⟩
  | 125 => ⟨S16384x256, .i32⟩
  | 126 => ⟨S16384x256, .i32⟩
  | 127 => ⟨S16384x256, .f32⟩
  | _ => ⟨S16384, .f32⟩

abbrev hbmTy0_6 (i : Nat) : BufTy := match i % 128 with
  | 0 => ⟨S_, .f32⟩
  | 1 => ⟨S16384x256, .f32⟩
  | 2 => ⟨S16384x256, .f32⟩
  | 3 => ⟨S1x1, .f32⟩
  | 4 => ⟨S16384x256, .f32⟩
  | 5 => ⟨S16384x256, .f32⟩
  | 6 => ⟨S16384x256, .f32⟩
  | 7 => ⟨S16384x256, .f32⟩
  | 8 => ⟨S16384x256, .f32⟩
  | 9 => ⟨S16384x256, .f32⟩
  | 10 => ⟨S16384x256, .f32⟩
  | 11 => ⟨S16384x256, .f32⟩
  | 12 => ⟨S_, .i32⟩
  | 13 => ⟨S_, .i32⟩
  | 14 => ⟨S_, .f32⟩
  | 15 => ⟨S16384x256, .f32⟩
  | 16 => ⟨S16384x256, .i1⟩
  | 17 => ⟨S_, .i32⟩
  | 18 => ⟨S16384x256, .i32⟩
  | 19 => ⟨S16384x256, .i32⟩
  | 20 => ⟨S_, .i32⟩
  | 21 => ⟨S_, .i32⟩
  | 22 => ⟨S16384x256, .i32⟩
  | 23 => ⟨S16384x256, .i32⟩
  | 24 => ⟨S256, .i32⟩
  | 25 => ⟨S1x256, .i32⟩
  | 26 => ⟨S16384x256, .i32⟩
  | 27 => ⟨S16384x256, .i32⟩
  | 28 => ⟨S_, .i32⟩
  | 29 => ⟨S_, .i32⟩
  | 30 => ⟨S16384x256, .i32⟩
  | 31 => ⟨S16384x256, .i32⟩
  | 32 => ⟨S16384x256, .i1⟩
  | 33 => ⟨S256x16384, .i1⟩
  | _ => ⟨S16384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384, .f32⟩

abbrev bufTy : (tb : Table) → Fin (tcTables nBuf tb) → BufTy
  | .hbm, ⟨i, _⟩ => hbmTy i
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_v8 : Ref sig .tc := ⟨.hbm, 248, rfl⟩
abbrev main_v9 : Ref sig .tc := ⟨.hbm, 249, rfl⟩
abbrev main_c_3 : Ref sig .tc := ⟨.hbm, 250, rfl⟩
abbrev main_v10 : Ref sig .tc := ⟨.hbm, 251, rfl⟩
abbrev main_cst : Ref sig .tc := ⟨.hbm, 252, rfl⟩
abbrev main_v11 : Ref sig .tc := ⟨.hbm, 253, rfl⟩
abbrev main_c_4 : Ref sig .tc := ⟨.hbm, 254, rfl⟩
abbrev main_c_5 : Ref sig .tc := ⟨.hbm, 255, rfl⟩
abbrev main_v12_0 : Ref sig .tc := ⟨.hbm, 256, rfl⟩
abbrev main_v12_1 : Ref sig .tc := ⟨.hbm, 257, rfl⟩
abbrev main_v12_2 : Ref sig .tc := ⟨.hbm, 258, rfl⟩
abbrev main_v12_3 : Ref sig .tc := ⟨.hbm, 259, rfl⟩
abbrev main_v12_4 : Ref sig .tc := ⟨.hbm, 260, rfl⟩
abbrev main_v12_5 : Ref sig .tc := ⟨.hbm, 261, rfl⟩
abbrev main_while0c_c_14 : Ref sig .tc := ⟨.hbm, 262, rfl⟩
abbrev main_while0c_v26 : Ref sig .tc := ⟨.hbm, 263, rfl⟩
abbrev main_while0b_c_14 : Ref sig .tc := ⟨.hbm, 264, rfl⟩
abbrev main_while0b_v26 : Ref sig .tc := ⟨.hbm, 265, rfl⟩
abbrev main_while0b_call1_v0 : Ref sig .tc := ⟨.hbm, 266, rfl⟩
abbrev main_while0b_call1_v1 : Ref sig .tc := ⟨.hbm, 267, rfl⟩
abbrev main_while0b_call1_v2 : Ref sig .tc := ⟨.hbm, 268, rfl⟩
abbrev main_while0b_call1_v3 : Ref sig .tc := ⟨.hbm, 269, rfl⟩
abbrev main_while0b_call1_v4 : Ref sig .tc := ⟨.hbm, 270, rfl⟩
abbrev main_while0b_call1_c : Ref sig .tc := ⟨.hbm, 271, rfl⟩
abbrev main_while0b_call1_v5 : Ref sig .tc := ⟨.hbm, 272, rfl⟩
abbrev main_while0b_call1_v6 : Ref sig .tc := ⟨.hbm, 273, rfl⟩
abbrev main_while0b_call1_c_0 : Ref sig .tc := ⟨.hbm, 274, rfl⟩
abbrev main_while0b_call1_v7 : Ref sig .tc := ⟨.hbm, 275, rfl⟩
abbrev main_while0b_call1_v8 : Ref sig .tc := ⟨.hbm, 276, rfl⟩
abbrev main_while0b_call1_v9 : Ref sig .tc := ⟨.hbm, 277, rfl⟩
abbrev main_while0b_call1_v10 : Ref sig .tc := ⟨.hbm, 278, rfl⟩
abbrev main_while0b_call1_call0_v0 : Ref sig .tc := ⟨.hbm, 279, rfl⟩
abbrev main_while0b_call1_call0_c : Ref sig .tc := ⟨.hbm, 280, rfl⟩
abbrev main_while0b_call1_call0_v1 : Ref sig .tc := ⟨.hbm, 281, rfl⟩
abbrev main_while0b_call1_call0_v2 : Ref sig .tc := ⟨.hbm, 282, rfl⟩
abbrev main_while0b_call1_call0_v3 : Ref sig .tc := ⟨.hbm, 283, rfl⟩
abbrev main_while0b_call1_call0_v4 : Ref sig .tc := ⟨.hbm, 284, rfl⟩
abbrev main_while0b_call1_call0_v5 : Ref sig .tc := ⟨.hbm, 285, rfl⟩
abbrev main_while0b_call1_call0_v6 : Ref sig .tc := ⟨.hbm, 286, rfl⟩
abbrev main_while0b_call1_call0_c_0 : Ref sig .tc := ⟨.hbm, 287, rfl⟩
abbrev main_while0b_call1_call0_v7 : Ref sig .tc := ⟨.hbm, 288, rfl⟩
abbrev main_while0b_call1_call0_v8 : Ref sig .tc := ⟨.hbm, 289, rfl⟩
abbrev main_while0b_call1_call0_c_1 : Ref sig .tc := ⟨.hbm, 290, rfl⟩
abbrev main_while0b_call1_call0_v9 : Ref sig .tc := ⟨.hbm, 291, rfl⟩
abbrev main_while0b_call1_call0_v10 : Ref sig .tc := ⟨.hbm, 292, rfl⟩
abbrev main_while0b_call1_call0_v11 : Ref sig .tc := ⟨.hbm, 293, rfl⟩
abbrev main_while0b_call1_call0_v12 : Ref sig .tc := ⟨.hbm, 294, rfl⟩
abbrev main_while0b_call1_call0_v13 : Ref sig .tc := ⟨.hbm, 295, rfl⟩
abbrev main_while0b_call1_call0_c_2 : Ref sig .tc := ⟨.hbm, 296, rfl⟩
abbrev main_while0b_call1_call0_v14 : Ref sig .tc := ⟨.hbm, 297, rfl⟩
abbrev main_while0b_call1_call0_v15 : Ref sig .tc := ⟨.hbm, 298, rfl⟩
abbrev main_while0b_call1_call0_c_3 : Ref sig .tc := ⟨.hbm, 299, rfl⟩
abbrev main_while0b_call1_call0_v16 : Ref sig .tc := ⟨.hbm, 300, rfl⟩
abbrev main_while0b_call1_call0_v17 : Ref sig .tc := ⟨.hbm, 301, rfl⟩
abbrev main_while0b_call1_call0_v18 : Ref sig .tc := ⟨.hbm, 302, rfl⟩
abbrev main_while0b_call1_call0_v19 : Ref sig .tc := ⟨.hbm, 303, rfl⟩
abbrev main_while0b_call1_call0_v20 : Ref sig .tc := ⟨.hbm, 304, rfl⟩
abbrev main_while0b_call1_call0_c_4 : Ref sig .tc := ⟨.hbm, 305, rfl⟩
abbrev main_while0b_call1_call0_v21 : Ref sig .tc := ⟨.hbm, 306, rfl⟩
abbrev main_while0b_call1_call0_v22 : Ref sig .tc := ⟨.hbm, 307, rfl⟩
abbrev main_while0b_call1_call0_c_5 : Ref sig .tc := ⟨.hbm, 308, rfl⟩
abbrev main_while0b_call1_call0_v23 : Ref sig .tc := ⟨.hbm, 309, rfl⟩
abbrev main_while0b_call1_call0_v24 : Ref sig .tc := ⟨.hbm, 310, rfl⟩
abbrev main_while0b_call1_call0_v25 : Ref sig .tc := ⟨.hbm, 311, rfl⟩
abbrev main_while0b_call1_call0_v26 : Ref sig .tc := ⟨.hbm, 312, rfl⟩
abbrev main_while0b_call1_call0_v27 : Ref sig .tc := ⟨.hbm, 313, rfl⟩
abbrev main_while0b_call1_call0_c_6 : Ref sig .tc := ⟨.hbm, 314, rfl⟩
abbrev main_while0b_call1_call0_v28 : Ref sig .tc := ⟨.hbm, 315, rfl⟩
abbrev main_while0b_call1_call0_v29 : Ref sig .tc := ⟨.hbm, 316, rfl⟩
abbrev main_while0b_call1_call0_c_7 : Ref sig .tc := ⟨.hbm, 317, rfl⟩
abbrev main_while0b_call1_call0_v30 : Ref sig .tc := ⟨.hbm, 318, rfl⟩
abbrev main_while0b_call1_call0_v31 : Ref sig .tc := ⟨.hbm, 319, rfl⟩
abbrev main_while0b_call1_call0_v32 : Ref sig .tc := ⟨.hbm, 320, rfl⟩
abbrev main_while0b_call1_call0_v33 : Ref sig .tc := ⟨.hbm, 321, rfl⟩
abbrev main_while0b_call1_call0_v34 : Ref sig .tc := ⟨.hbm, 322, rfl⟩
abbrev main_while0b_call1_call0_v35 : Ref sig .tc := ⟨.hbm, 323, rfl⟩
abbrev main_while0b_call1_call0_v36 : Ref sig .tc := ⟨.hbm, 324, rfl⟩
abbrev main_while0b_call1_call0_v37 : Ref sig .tc := ⟨.hbm, 325, rfl⟩
abbrev main_while0b_call1_call0_c_8 : Ref sig .tc := ⟨.hbm, 326, rfl⟩
abbrev main_while0b_call1_call0_v38 : Ref sig .tc := ⟨.hbm, 327, rfl⟩
abbrev main_while0b_call1_call0_v39 : Ref sig .tc := ⟨.hbm, 328, rfl⟩
abbrev main_while0b_call1_call0_v40 : Ref sig .tc := ⟨.hbm, 329, rfl⟩
abbrev main_while0b_call1_call0_c_9 : Ref sig .tc := ⟨.hbm, 330, rfl⟩
abbrev main_while0b_call1_call0_v41 : Ref sig .tc := ⟨.hbm, 331, rfl⟩
abbrev main_while0b_call1_call0_v42 : Ref sig .tc := ⟨.hbm, 332, rfl⟩
abbrev main_while0b_call1_call0_c_10 : Ref sig .tc := ⟨.hbm, 333, rfl⟩
abbrev main_while0b_call1_call0_v43 : Ref sig .tc := ⟨.hbm, 334, rfl⟩
abbrev main_while0b_call1_call0_v44 : Ref sig .tc := ⟨.hbm, 335, rfl⟩
abbrev main_while0b_call1_call0_v45 : Ref sig .tc := ⟨.hbm, 336, rfl⟩
abbrev main_while0b_call1_call0_v46 : Ref sig .tc := ⟨.hbm, 337, rfl⟩
abbrev main_while0b_call1_call0_v47 : Ref sig .tc := ⟨.hbm, 338, rfl⟩
abbrev main_while0b_call1_call0_c_11 : Ref sig .tc := ⟨.hbm, 339, rfl⟩
abbrev main_while0b_call1_call0_v48 : Ref sig .tc := ⟨.hbm, 340, rfl⟩
abbrev main_while0b_call1_call0_v49 : Ref sig .tc := ⟨.hbm, 341, rfl⟩
abbrev main_while0b_call1_call0_c_12 : Ref sig .tc := ⟨.hbm, 342, rfl⟩
abbrev main_while0b_call1_call0_v50 : Ref sig .tc := ⟨.hbm, 343, rfl⟩
abbrev main_while0b_call1_call0_v51 : Ref sig .tc := ⟨.hbm, 344, rfl⟩
abbrev main_while0b_call1_call0_v52 : Ref sig .tc := ⟨.hbm, 345, rfl⟩
abbrev main_while0b_call1_call0_v53 : Ref sig .tc := ⟨.hbm, 346, rfl⟩
abbrev main_while0b_call1_call0_v54 : Ref sig .tc := ⟨.hbm, 347, rfl⟩
abbrev main_while0b_call1_call0_c_13 : Ref sig .tc := ⟨.hbm, 348, rfl⟩
abbrev main_while0b_call1_call0_v55 : Ref sig .tc := ⟨.hbm, 349, rfl⟩
abbrev main_while0b_call1_call0_v56 : Ref sig .tc := ⟨.hbm, 350, rfl⟩
abbrev main_while0b_call1_call0_c_14 : Ref sig .tc := ⟨.hbm, 351, rfl⟩
abbrev main_while0b_call1_call0_v57 : Ref sig .tc := ⟨.hbm, 352, rfl⟩
abbrev main_while0b_call1_call0_v58 : Ref sig .tc := ⟨.hbm, 353, rfl⟩
abbrev main_while0b_call1_call0_v59 : Ref sig .tc := ⟨.hbm, 354, rfl⟩
abbrev main_while0b_call1_call0_v60 : Ref sig .tc := ⟨.hbm, 355, rfl⟩
abbrev main_while0b_call1_call0_v61 : Ref sig .tc := ⟨.hbm, 356, rfl⟩
abbrev main_while0b_call1_call0_c_15 : Ref sig .tc := ⟨.hbm, 357, rfl⟩
abbrev main_while0b_call1_call0_v62 : Ref sig .tc := ⟨.hbm, 358, rfl⟩
abbrev main_while0b_call1_call0_v63 : Ref sig .tc := ⟨.hbm, 359, rfl⟩
abbrev main_while0b_call1_call0_c_16 : Ref sig .tc := ⟨.hbm, 360, rfl⟩
abbrev main_while0b_call1_call0_v64 : Ref sig .tc := ⟨.hbm, 361, rfl⟩
abbrev main_while0b_call1_call0_v65 : Ref sig .tc := ⟨.hbm, 362, rfl⟩
abbrev main_while0b_call1_call0_v66 : Ref sig .tc := ⟨.hbm, 363, rfl⟩
abbrev main_while0b_call1_call0_v67 : Ref sig .tc := ⟨.hbm, 364, rfl⟩
abbrev main_while0b_call1_call0_v68 : Ref sig .tc := ⟨.hbm, 365, rfl⟩
abbrev main_while0b_call1_call0_v69 : Ref sig .tc := ⟨.hbm, 366, rfl⟩
abbrev main_while0b_call1_call0_v70 : Ref sig .tc := ⟨.hbm, 367, rfl⟩
abbrev main_while0b_call1_call0_v71 : Ref sig .tc := ⟨.hbm, 368, rfl⟩
abbrev main_while0b_call1_call0_c_17 : Ref sig .tc := ⟨.hbm, 369, rfl⟩
abbrev main_while0b_call1_call0_v72 : Ref sig .tc := ⟨.hbm, 370, rfl⟩
abbrev main_while0b_call1_call0_v73 : Ref sig .tc := ⟨.hbm, 371, rfl⟩
abbrev main_while0b_call1_call0_v74 : Ref sig .tc := ⟨.hbm, 372, rfl⟩
abbrev main_while0b_call1_call0_c_18 : Ref sig .tc := ⟨.hbm, 373, rfl⟩
abbrev main_while0b_call1_call0_v75 : Ref sig .tc := ⟨.hbm, 374, rfl⟩
abbrev main_while0b_call1_call0_v76 : Ref sig .tc := ⟨.hbm, 375, rfl⟩
abbrev main_while0b_call1_call0_c_19 : Ref sig .tc := ⟨.hbm, 376, rfl⟩
abbrev main_while0b_call1_call0_v77 : Ref sig .tc := ⟨.hbm, 377, rfl⟩
abbrev main_while0b_call1_call0_v78 : Ref sig .tc := ⟨.hbm, 378, rfl⟩
abbrev main_while0b_call1_call0_v79 : Ref sig .tc := ⟨.hbm, 379, rfl⟩
abbrev main_while0b_call1_call0_v80 : Ref sig .tc := ⟨.hbm, 380, rfl⟩
abbrev main_while0b_call1_call0_v81 : Ref sig .tc := ⟨.hbm, 381, rfl⟩
abbrev main_while0b_call1_call0_c_20 : Ref sig .tc := ⟨.hbm, 382, rfl⟩
abbrev main_while0b_call1_call0_v82 : Ref sig .tc := ⟨.hbm, 383, rfl⟩
abbrev main_while0b_call1_call0_v83 : Ref sig .tc := ⟨.hbm, 384, rfl⟩
abbrev main_while0b_call1_call0_c_21 : Ref sig .tc := ⟨.hbm, 385, rfl⟩
abbrev main_while0b_call1_call0_v84 : Ref sig .tc := ⟨.hbm, 386, rfl⟩
abbrev main_while0b_call1_call0_v85 : Ref sig .tc := ⟨.hbm, 387, rfl⟩
abbrev main_while0b_call1_call0_v86 : Ref sig .tc := ⟨.hbm, 388, rfl⟩
abbrev main_while0b_call1_call0_v87 : Ref sig .tc := ⟨.hbm, 389, rfl⟩
abbrev main_while0b_call1_call0_v88 : Ref sig .tc := ⟨.hbm, 390, rfl⟩
abbrev main_while0b_call1_call0_c_22 : Ref sig .tc := ⟨.hbm, 391, rfl⟩
abbrev main_while0b_call1_call0_v89 : Ref sig .tc := ⟨.hbm, 392, rfl⟩
abbrev main_while0b_call1_call0_v90 : Ref sig .tc := ⟨.hbm, 393, rfl⟩
abbrev main_while0b_call1_call0_c_23 : Ref sig .tc := ⟨.hbm, 394, rfl⟩
abbrev main_while0b_call1_call0_v91 : Ref sig .tc := ⟨.hbm, 395, rfl⟩
abbrev main_while0b_call1_call0_v92 : Ref sig .tc := ⟨.hbm, 396, rfl⟩
abbrev main_while0b_call1_call0_v93 : Ref sig .tc := ⟨.hbm, 397, rfl⟩
abbrev main_while0b_call1_call0_v94 : Ref sig .tc := ⟨.hbm, 398, rfl⟩
abbrev main_while0b_call1_call0_v95 : Ref sig .tc := ⟨.hbm, 399, rfl⟩
abbrev main_while0b_call1_call0_c_24 : Ref sig .tc := ⟨.hbm, 400, rfl⟩
abbrev main_while0b_call1_call0_v96 : Ref sig .tc := ⟨.hbm, 401, rfl⟩
abbrev main_while0b_call1_call0_v97 : Ref sig .tc := ⟨.hbm, 402, rfl⟩
abbrev main_while0b_call1_call0_c_25 : Ref sig .tc := ⟨.hbm, 403, rfl⟩
abbrev main_while0b_call1_call0_v98 : Ref sig .tc := ⟨.hbm, 404, rfl⟩
abbrev main_while0b_call1_call0_v99 : Ref sig .tc := ⟨.hbm, 405, rfl⟩
abbrev main_while0b_call1_call0_v100 : Ref sig .tc := ⟨.hbm, 406, rfl⟩
abbrev main_while0b_call1_call0_v101 : Ref sig .tc := ⟨.hbm, 407, rfl⟩
abbrev main_while0b_call1_call0_v102 : Ref sig .tc := ⟨.hbm, 408, rfl⟩
abbrev main_while0b_call1_call0_v103 : Ref sig .tc := ⟨.hbm, 409, rfl⟩
abbrev main_while0b_call1_call0_v104 : Ref sig .tc := ⟨.hbm, 410, rfl⟩
abbrev main_while0b_call1_call0_v105 : Ref sig .tc := ⟨.hbm, 411, rfl⟩
abbrev main_while0b_call1_call0_c_26 : Ref sig .tc := ⟨.hbm, 412, rfl⟩
abbrev main_while0b_call1_call0_v106 : Ref sig .tc := ⟨.hbm, 413, rfl⟩
abbrev main_while0b_call1_call0_v107 : Ref sig .tc := ⟨.hbm, 414, rfl⟩
abbrev main_while0b_call1_call0_v108 : Ref sig .tc := ⟨.hbm, 415, rfl⟩
abbrev main_while0b_call1_call0_c_27 : Ref sig .tc := ⟨.hbm, 416, rfl⟩
abbrev main_while0b_call1_call0_v109 : Ref sig .tc := ⟨.hbm, 417, rfl⟩
abbrev main_while0b_call1_call0_v110 : Ref sig .tc := ⟨.hbm, 418, rfl⟩
abbrev main_while0b_call1_call0_c_28 : Ref sig .tc := ⟨.hbm, 419, rfl⟩
abbrev main_while0b_call1_call0_v111 : Ref sig .tc := ⟨.hbm, 420, rfl⟩
abbrev main_while0b_call1_call0_v112 : Ref sig .tc := ⟨.hbm, 421, rfl⟩
abbrev main_while0b_call1_call0_v113 : Ref sig .tc := ⟨.hbm, 422, rfl⟩
abbrev main_while0b_call1_call0_v114 : Ref sig .tc := ⟨.hbm, 423, rfl⟩
abbrev main_while0b_call1_call0_v115 : Ref sig .tc := ⟨.hbm, 424, rfl⟩
abbrev main_while0b_call1_call0_c_29 : Ref sig .tc := ⟨.hbm, 425, rfl⟩
abbrev main_while0b_call1_call0_v116 : Ref sig .tc := ⟨.hbm, 426, rfl⟩
abbrev main_while0b_call1_call0_v117 : Ref sig .tc := ⟨.hbm, 427, rfl⟩
abbrev main_while0b_call1_call0_c_30 : Ref sig .tc := ⟨.hbm, 428, rfl⟩
abbrev main_while0b_call1_call0_v118 : Ref sig .tc := ⟨.hbm, 429, rfl⟩
abbrev main_while0b_call1_call0_v119 : Ref sig .tc := ⟨.hbm, 430, rfl⟩
abbrev main_while0b_call1_call0_v120 : Ref sig .tc := ⟨.hbm, 431, rfl⟩
abbrev main_while0b_call1_call0_v121 : Ref sig .tc := ⟨.hbm, 432, rfl⟩
abbrev main_while0b_call1_call0_v122 : Ref sig .tc := ⟨.hbm, 433, rfl⟩
abbrev main_while0b_call1_call0_c_31 : Ref sig .tc := ⟨.hbm, 434, rfl⟩
abbrev main_while0b_call1_call0_v123 : Ref sig .tc := ⟨.hbm, 435, rfl⟩
abbrev main_while0b_call1_call0_v124 : Ref sig .tc := ⟨.hbm, 436, rfl⟩
abbrev main_while0b_call1_call0_c_32 : Ref sig .tc := ⟨.hbm, 437, rfl⟩
abbrev main_while0b_call1_call0_v125 : Ref sig .tc := ⟨.hbm, 438, rfl⟩
abbrev main_while0b_call1_call0_v126 : Ref sig .tc := ⟨.hbm, 439, rfl⟩
abbrev main_while0b_call1_call0_v127 : Ref sig .tc := ⟨.hbm, 440, rfl⟩
abbrev main_while0b_call1_call0_v128 : Ref sig .tc := ⟨.hbm, 441, rfl⟩
abbrev main_while0b_call1_call0_v129 : Ref sig .tc := ⟨.hbm, 442, rfl⟩
abbrev main_while0b_call1_call0_c_33 : Ref sig .tc := ⟨.hbm, 443, rfl⟩
abbrev main_while0b_call1_call0_v130 : Ref sig .tc := ⟨.hbm, 444, rfl⟩
abbrev main_while0b_call1_call0_v131 : Ref sig .tc := ⟨.hbm, 445, rfl⟩
abbrev main_while0b_call1_call0_c_34 : Ref sig .tc := ⟨.hbm, 446, rfl⟩
abbrev main_while0b_call1_call0_v132 : Ref sig .tc := ⟨.hbm, 447, rfl⟩
abbrev main_while0b_call1_call0_v133 : Ref sig .tc := ⟨.hbm, 448, rfl⟩
abbrev main_while0b_call1_call0_v134 : Ref sig .tc := ⟨.hbm, 449, rfl⟩
abbrev main_while0b_call1_call0_v135 : Ref sig .tc := ⟨.hbm, 450, rfl⟩
abbrev main_while0b_call1_call0_v136 : Ref sig .tc := ⟨.hbm, 451, rfl⟩
abbrev main_while0b_call1_call0_v137 : Ref sig .tc := ⟨.hbm, 452, rfl⟩
abbrev main_while0b_call1_call0_v138 : Ref sig .tc := ⟨.hbm, 453, rfl⟩
abbrev main_while0b_call1_call0_v139 : Ref sig .tc := ⟨.hbm, 454, rfl⟩
abbrev main_while0b_call1_call0_c_35 : Ref sig .tc := ⟨.hbm, 455, rfl⟩
abbrev main_while0b_call1_call0_v140 : Ref sig .tc := ⟨.hbm, 456, rfl⟩
abbrev main_while0b_call1_call0_v141 : Ref sig .tc := ⟨.hbm, 457, rfl⟩
abbrev main_while0b_call1_call0_v142 : Ref sig .tc := ⟨.hbm, 458, rfl⟩
abbrev main_while0b_call1_call0_c_36 : Ref sig .tc := ⟨.hbm, 459, rfl⟩
abbrev main_while0b_call1_call0_v143 : Ref sig .tc := ⟨.hbm, 460, rfl⟩
abbrev main_while0b_call1_call0_v144 : Ref sig .tc := ⟨.hbm, 461, rfl⟩
abbrev main_while0b_call1_call0_c_37 : Ref sig .tc := ⟨.hbm, 462, rfl⟩
abbrev main_while0b_call1_call0_v145 : Ref sig .tc := ⟨.hbm, 463, rfl⟩
abbrev main_while0b_call1_call0_v146 : Ref sig .tc := ⟨.hbm, 464, rfl⟩
abbrev main_while0b_call1_call0_v147 : Ref sig .tc := ⟨.hbm, 465, rfl⟩
abbrev main_while0b_call1_call0_v148 : Ref sig .tc := ⟨.hbm, 466, rfl⟩
abbrev main_while0b_call1_call0_v149 : Ref sig .tc := ⟨.hbm, 467, rfl⟩
abbrev main_while0b_call1_call0_c_38 : Ref sig .tc := ⟨.hbm, 468, rfl⟩
abbrev main_while0b_call1_call0_v150 : Ref sig .tc := ⟨.hbm, 469, rfl⟩
abbrev main_while0b_call1_call0_v151 : Ref sig .tc := ⟨.hbm, 470, rfl⟩
abbrev main_while0b_call1_call0_c_39 : Ref sig .tc := ⟨.hbm, 471, rfl⟩
abbrev main_while0b_call1_call0_v152 : Ref sig .tc := ⟨.hbm, 472, rfl⟩
abbrev main_while0b_call1_call0_v153 : Ref sig .tc := ⟨.hbm, 473, rfl⟩
abbrev main_while0b_call1_call0_v154 : Ref sig .tc := ⟨.hbm, 474, rfl⟩
abbrev main_while0b_call1_call0_v155 : Ref sig .tc := ⟨.hbm, 475, rfl⟩
abbrev main_while0b_call1_call0_v156 : Ref sig .tc := ⟨.hbm, 476, rfl⟩
abbrev main_while0b_call1_call0_c_40 : Ref sig .tc := ⟨.hbm, 477, rfl⟩
abbrev main_while0b_call1_call0_v157 : Ref sig .tc := ⟨.hbm, 478, rfl⟩
abbrev main_while0b_call1_call0_v158 : Ref sig .tc := ⟨.hbm, 479, rfl⟩
abbrev main_while0b_call1_call0_c_41 : Ref sig .tc := ⟨.hbm, 480, rfl⟩
abbrev main_while0b_call1_call0_v159 : Ref sig .tc := ⟨.hbm, 481, rfl⟩
abbrev main_while0b_call1_call0_v160 : Ref sig .tc := ⟨.hbm, 482, rfl⟩
abbrev main_while0b_call1_call0_v161 : Ref sig .tc := ⟨.hbm, 483, rfl⟩
abbrev main_while0b_call1_call0_v162 : Ref sig .tc := ⟨.hbm, 484, rfl⟩
abbrev main_while0b_call1_call0_v163 : Ref sig .tc := ⟨.hbm, 485, rfl⟩
abbrev main_while0b_call1_call0_c_42 : Ref sig .tc := ⟨.hbm, 486, rfl⟩
abbrev main_while0b_call1_call0_v164 : Ref sig .tc := ⟨.hbm, 487, rfl⟩
abbrev main_while0b_call1_call0_v165 : Ref sig .tc := ⟨.hbm, 488, rfl⟩
abbrev main_while0b_call1_call0_c_43 : Ref sig .tc := ⟨.hbm, 489, rfl⟩
abbrev main_while0b_call1_call0_v166 : Ref sig .tc := ⟨.hbm, 490, rfl⟩
abbrev main_while0b_call1_call0_v167 : Ref sig .tc := ⟨.hbm, 491, rfl⟩
abbrev main_while0b_call1_call0_v168 : Ref sig .tc := ⟨.hbm, 492, rfl⟩
abbrev main_while0b_call1_call0_v169 : Ref sig .tc := ⟨.hbm, 493, rfl⟩
abbrev main_while0b_call1_call0_v170 : Ref sig .tc := ⟨.hbm, 494, rfl⟩
abbrev main_while0b_call1_v11_0 : Ref sig .tc := ⟨.hbm, 495, rfl⟩
abbrev main_while0b_call1_call0_v172 : Ref sig .tc := ⟨.hbm, 496, rfl⟩
abbrev main_while0b_call1_call0_v173 : Ref sig .tc := ⟨.hbm, 497, rfl⟩
abbrev main_while0b_call1_call0_c_44 : Ref sig .tc := ⟨.hbm, 498, rfl⟩
abbrev main_while0b_call1_call0_v174 : Ref sig .tc := ⟨.hbm, 499, rfl⟩
abbrev main_while0b_call1_v11_1 : Ref sig .tc := ⟨.hbm, 500, rfl⟩
abbrev main_while0b_call1_v12 : Ref sig .tc := ⟨.hbm, 501, rfl⟩
abbrev main_while0b_call1_v13 : Ref sig .tc := ⟨.hbm, 502, rfl⟩
abbrev main_while0b_v27 : Ref sig .tc := ⟨.hbm, 503, rfl⟩
abbrev main_while0b_v28 : Ref sig .tc := ⟨.hbm, 504, rfl⟩
abbrev main_while0b_v29 : Ref sig .tc := ⟨.hbm, 505, rfl⟩
abbrev main_while0b_v30 : Ref sig .tc := ⟨.hbm, 506, rfl⟩
abbrev main_while0b_v31 : Ref sig .tc := ⟨.hbm, 507, rfl⟩
abbrev main_while0b_v32 : Ref sig .tc := ⟨.hbm, 508, rfl⟩
abbrev main_while0b_v33 : Ref sig .tc := ⟨.hbm, 509, rfl⟩
abbrev main_while0b_c_15 : Ref sig .tc := ⟨.hbm, 510, rfl⟩
abbrev main_while0b_v34 : Ref sig .tc := ⟨.hbm, 511, rfl⟩
abbrev main_while0b_v35 : Ref sig .tc := ⟨.hbm, 512, rfl⟩
abbrev main_while0b_v36 : Ref sig .tc := ⟨.hbm, 513, rfl⟩
abbrev main_while0b_cst_16 : Ref sig .tc := ⟨.hbm, 514, rfl⟩
abbrev main_while0b_cst_17 : Ref sig .tc := ⟨.hbm, 515, rfl⟩
abbrev main_while0b_call2_v0 : Ref sig .tc := ⟨.hbm, 516, rfl⟩
abbrev main_while0b_call2_v1 : Ref sig .tc := ⟨.hbm, 517, rfl⟩
abbrev main_while0b_call2_v2 : Ref sig .tc := ⟨.hbm, 518, rfl⟩
abbrev main_while0b_call2_v3 : Ref sig .tc := ⟨.hbm, 519, rfl⟩
abbrev main_while0b_call2_v4 : Ref sig .tc := ⟨.hbm, 520, rfl⟩
abbrev main_while0b_call2_v5 : Ref sig .tc := ⟨.hbm, 521, rfl⟩
abbrev main_while0b_call2_v6 : Ref sig .tc := ⟨.hbm, 522, rfl⟩
abbrev main_while0b_call2_v7 : Ref sig .tc := ⟨.hbm, 523, rfl⟩
abbrev main_while0b_call2_v8 : Ref sig .tc := ⟨.hbm, 524, rfl⟩
abbrev main_while0b_call2_v9 : Ref sig .tc := ⟨.hbm, 525, rfl⟩
abbrev main_while0b_call2_c : Ref sig .tc := ⟨.hbm, 526, rfl⟩
abbrev main_while0b_call2_v10 : Ref sig .tc := ⟨.hbm, 527, rfl⟩
abbrev main_while0b_call2_v11 : Ref sig .tc := ⟨.hbm, 528, rfl⟩
abbrev main_while0b_call2_c_0 : Ref sig .tc := ⟨.hbm, 529, rfl⟩
abbrev main_while0b_call2_v12 : Ref sig .tc := ⟨.hbm, 530, rfl⟩
abbrev main_while0b_call2_v13 : Ref sig .tc := ⟨.hbm, 531, rfl⟩
abbrev main_while0b_call2_v14 : Ref sig .tc := ⟨.hbm, 532, rfl⟩
abbrev main_while0b_call2_c_1 : Ref sig .tc := ⟨.hbm, 533, rfl⟩
abbrev main_while0b_call2_v15 : Ref sig .tc := ⟨.hbm, 534, rfl⟩
abbrev main_while0b_call2_v16 : Ref sig .tc := ⟨.hbm, 535, rfl⟩
abbrev main_while0b_call2_v17 : Ref sig .tc := ⟨.hbm, 536, rfl⟩
abbrev main_while0b_call2_v18 : Ref sig .tc := ⟨.hbm, 537, rfl⟩
abbrev main_while0b_call2_call0_v0 : Ref sig .tc := ⟨.hbm, 538, rfl⟩
abbrev main_while0b_call2_call0_c : Ref sig .tc := ⟨.hbm, 539, rfl⟩
abbrev main_while0b_call2_call0_v1 : Ref sig .tc := ⟨.hbm, 540, rfl⟩
abbrev main_while0b_call2_call0_v2 : Ref sig .tc := ⟨.hbm, 541, rfl⟩
abbrev main_while0b_call2_call0_v3 : Ref sig .tc := ⟨.hbm, 542, rfl⟩
abbrev main_while0b_call2_call0_v4 : Ref sig .tc := ⟨.hbm, 543, rfl⟩
abbrev main_while0b_call2_call0_v5 : Ref sig .tc := ⟨.hbm, 544, rfl⟩
abbrev main_while0b_call2_call0_v6 : Ref sig .tc := ⟨.hbm, 545, rfl⟩
abbrev main_while0b_call2_call0_c_0 : Ref sig .tc := ⟨.hbm, 546, rfl⟩
abbrev main_while0b_call2_call0_v7 : Ref sig .tc := ⟨.hbm, 547, rfl⟩
abbrev main_while0b_call2_call0_v8 : Ref sig .tc := ⟨.hbm, 548, rfl⟩
abbrev main_while0b_call2_call0_c_1 : Ref sig .tc := ⟨.hbm, 549, rfl⟩
abbrev main_while0b_call2_call0_v9 : Ref sig .tc := ⟨.hbm, 550, rfl⟩
abbrev main_while0b_call2_call0_v10 : Ref sig .tc := ⟨.hbm, 551, rfl⟩
abbrev main_while0b_call2_call0_v11 : Ref sig .tc := ⟨.hbm, 552, rfl⟩
abbrev main_while0b_call2_call0_v12 : Ref sig .tc := ⟨.hbm, 553, rfl⟩
abbrev main_while0b_call2_call0_v13 : Ref sig .tc := ⟨.hbm, 554, rfl⟩
abbrev main_while0b_call2_call0_c_2 : Ref sig .tc := ⟨.hbm, 555, rfl⟩
abbrev main_while0b_call2_call0_v14 : Ref sig .tc := ⟨.hbm, 556, rfl⟩
abbrev main_while0b_call2_call0_v15 : Ref sig .tc := ⟨.hbm, 557, rfl⟩
abbrev main_while0b_call2_call0_c_3 : Ref sig .tc := ⟨.hbm, 558, rfl⟩
abbrev main_while0b_call2_call0_v16 : Ref sig .tc := ⟨.hbm, 559, rfl⟩
abbrev main_while0b_call2_call0_v17 : Ref sig .tc := ⟨.hbm, 560, rfl⟩
abbrev main_while0b_call2_call0_v18 : Ref sig .tc := ⟨.hbm, 561, rfl⟩
abbrev main_while0b_call2_call0_v19 : Ref sig .tc := ⟨.hbm, 562, rfl⟩
abbrev main_while0b_call2_call0_v20 : Ref sig .tc := ⟨.hbm, 563, rfl⟩
abbrev main_while0b_call2_call0_c_4 : Ref sig .tc := ⟨.hbm, 564, rfl⟩
abbrev main_while0b_call2_call0_v21 : Ref sig .tc := ⟨.hbm, 565, rfl⟩
abbrev main_while0b_call2_call0_v22 : Ref sig .tc := ⟨.hbm, 566, rfl⟩
abbrev main_while0b_call2_call0_c_5 : Ref sig .tc := ⟨.hbm, 567, rfl⟩
abbrev main_while0b_call2_call0_v23 : Ref sig .tc := ⟨.hbm, 568, rfl⟩
abbrev main_while0b_call2_call0_v24 : Ref sig .tc := ⟨.hbm, 569, rfl⟩
abbrev main_while0b_call2_call0_v25 : Ref sig .tc := ⟨.hbm, 570, rfl⟩
abbrev main_while0b_call2_call0_v26 : Ref sig .tc := ⟨.hbm, 571, rfl⟩
abbrev main_while0b_call2_call0_v27 : Ref sig .tc := ⟨.hbm, 572, rfl⟩
abbrev main_while0b_call2_call0_c_6 : Ref sig .tc := ⟨.hbm, 573, rfl⟩
abbrev main_while0b_call2_call0_v28 : Ref sig .tc := ⟨.hbm, 574, rfl⟩
abbrev main_while0b_call2_call0_v29 : Ref sig .tc := ⟨.hbm, 575, rfl⟩
abbrev main_while0b_call2_call0_c_7 : Ref sig .tc := ⟨.hbm, 576, rfl⟩
abbrev main_while0b_call2_call0_v30 : Ref sig .tc := ⟨.hbm, 577, rfl⟩
abbrev main_while0b_call2_call0_v31 : Ref sig .tc := ⟨.hbm, 578, rfl⟩
abbrev main_while0b_call2_call0_v32 : Ref sig .tc := ⟨.hbm, 579, rfl⟩
abbrev main_while0b_call2_call0_v33 : Ref sig .tc := ⟨.hbm, 580, rfl⟩
abbrev main_while0b_call2_call0_v34 : Ref sig .tc := ⟨.hbm, 581, rfl⟩
abbrev main_while0b_call2_call0_v35 : Ref sig .tc := ⟨.hbm, 582, rfl⟩
abbrev main_while0b_call2_call0_v36 : Ref sig .tc := ⟨.hbm, 583, rfl⟩
abbrev main_while0b_call2_call0_v37 : Ref sig .tc := ⟨.hbm, 584, rfl⟩
abbrev main_while0b_call2_call0_c_8 : Ref sig .tc := ⟨.hbm, 585, rfl⟩
abbrev main_while0b_call2_call0_v38 : Ref sig .tc := ⟨.hbm, 586, rfl⟩
abbrev main_while0b_call2_call0_v39 : Ref sig .tc := ⟨.hbm, 587, rfl⟩
abbrev main_while0b_call2_call0_v40 : Ref sig .tc := ⟨.hbm, 588, rfl⟩
abbrev main_while0b_call2_call0_c_9 : Ref sig .tc := ⟨.hbm, 589, rfl⟩
abbrev main_while0b_call2_call0_v41 : Ref sig .tc := ⟨.hbm, 590, rfl⟩
abbrev main_while0b_call2_call0_v42 : Ref sig .tc := ⟨.hbm, 591, rfl⟩
abbrev main_while0b_call2_call0_c_10 : Ref sig .tc := ⟨.hbm, 592, rfl⟩
abbrev main_while0b_call2_call0_v43 : Ref sig .tc := ⟨.hbm, 593, rfl⟩
abbrev main_while0b_call2_call0_v44 : Ref sig .tc := ⟨.hbm, 594, rfl⟩
abbrev main_while0b_call2_call0_v45 : Ref sig .tc := ⟨.hbm, 595, rfl⟩
abbrev main_while0b_call2_call0_v46 : Ref sig .tc := ⟨.hbm, 596, rfl⟩
abbrev main_while0b_call2_call0_v47 : Ref sig .tc := ⟨.hbm, 597, rfl⟩
abbrev main_while0b_call2_call0_c_11 : Ref sig .tc := ⟨.hbm, 598, rfl⟩
abbrev main_while0b_call2_call0_v48 : Ref sig .tc := ⟨.hbm, 599, rfl⟩
abbrev main_while0b_call2_call0_v49 : Ref sig .tc := ⟨.hbm, 600, rfl⟩
abbrev main_while0b_call2_call0_c_12 : Ref sig .tc := ⟨.hbm, 601, rfl⟩
abbrev main_while0b_call2_call0_v50 : Ref sig .tc := ⟨.hbm, 602, rfl⟩
abbrev main_while0b_call2_call0_v51 : Ref sig .tc := ⟨.hbm, 603, rfl⟩
abbrev main_while0b_call2_call0_v52 : Ref sig .tc := ⟨.hbm, 604, rfl⟩
abbrev main_while0b_call2_call0_v53 : Ref sig .tc := ⟨.hbm, 605, rfl⟩
abbrev main_while0b_call2_call0_v54 : Ref sig .tc := ⟨.hbm, 606, rfl⟩
abbrev main_while0b_call2_call0_c_13 : Ref sig .tc := ⟨.hbm, 607, rfl⟩
abbrev main_while0b_call2_call0_v55 : Ref sig .tc := ⟨.hbm, 608, rfl⟩
abbrev main_while0b_call2_call0_v56 : Ref sig .tc := ⟨.hbm, 609, rfl⟩
abbrev main_while0b_call2_call0_c_14 : Ref sig .tc := ⟨.hbm, 610, rfl⟩
abbrev main_while0b_call2_call0_v57 : Ref sig .tc := ⟨.hbm, 611, rfl⟩
abbrev main_while0b_call2_call0_v58 : Ref sig .tc := ⟨.hbm, 612, rfl⟩
abbrev main_while0b_call2_call0_v59 : Ref sig .tc := ⟨.hbm, 613, rfl⟩
abbrev main_while0b_call2_call0_v60 : Ref sig .tc := ⟨.hbm, 614, rfl⟩
abbrev main_while0b_call2_call0_v61 : Ref sig .tc := ⟨.hbm, 615, rfl⟩
abbrev main_while0b_call2_call0_c_15 : Ref sig .tc := ⟨.hbm, 616, rfl⟩
abbrev main_while0b_call2_call0_v62 : Ref sig .tc := ⟨.hbm, 617, rfl⟩
abbrev main_while0b_call2_call0_v63 : Ref sig .tc := ⟨.hbm, 618, rfl⟩
abbrev main_while0b_call2_call0_c_16 : Ref sig .tc := ⟨.hbm, 619, rfl⟩
abbrev main_while0b_call2_call0_v64 : Ref sig .tc := ⟨.hbm, 620, rfl⟩
abbrev main_while0b_call2_call0_v65 : Ref sig .tc := ⟨.hbm, 621, rfl⟩
abbrev main_while0b_call2_call0_v66 : Ref sig .tc := ⟨.hbm, 622, rfl⟩
abbrev main_while0b_call2_call0_v67 : Ref sig .tc := ⟨.hbm, 623, rfl⟩
abbrev main_while0b_call2_call0_v68 : Ref sig .tc := ⟨.hbm, 624, rfl⟩
abbrev main_while0b_call2_call0_v69 : Ref sig .tc := ⟨.hbm, 625, rfl⟩
abbrev main_while0b_call2_call0_v70 : Ref sig .tc := ⟨.hbm, 626, rfl⟩
abbrev main_while0b_call2_call0_v71 : Ref sig .tc := ⟨.hbm, 627, rfl⟩
abbrev main_while0b_call2_call0_c_17 : Ref sig .tc := ⟨.hbm, 628, rfl⟩
abbrev main_while0b_call2_call0_v72 : Ref sig .tc := ⟨.hbm, 629, rfl⟩
abbrev main_while0b_call2_call0_v73 : Ref sig .tc := ⟨.hbm, 630, rfl⟩
abbrev main_while0b_call2_call0_v74 : Ref sig .tc := ⟨.hbm, 631, rfl⟩
abbrev main_while0b_call2_call0_c_18 : Ref sig .tc := ⟨.hbm, 632, rfl⟩
abbrev main_while0b_call2_call0_v75 : Ref sig .tc := ⟨.hbm, 633, rfl⟩
abbrev main_while0b_call2_call0_v76 : Ref sig .tc := ⟨.hbm, 634, rfl⟩
abbrev main_while0b_call2_call0_c_19 : Ref sig .tc := ⟨.hbm, 635, rfl⟩
abbrev main_while0b_call2_call0_v77 : Ref sig .tc := ⟨.hbm, 636, rfl⟩
abbrev main_while0b_call2_call0_v78 : Ref sig .tc := ⟨.hbm, 637, rfl⟩
abbrev main_while0b_call2_call0_v79 : Ref sig .tc := ⟨.hbm, 638, rfl⟩
abbrev main_while0b_call2_call0_v80 : Ref sig .tc := ⟨.hbm, 639, rfl⟩
abbrev main_while0b_call2_call0_v81 : Ref sig .tc := ⟨.hbm, 640, rfl⟩
abbrev main_while0b_call2_call0_c_20 : Ref sig .tc := ⟨.hbm, 641, rfl⟩
abbrev main_while0b_call2_call0_v82 : Ref sig .tc := ⟨.hbm, 642, rfl⟩
abbrev main_while0b_call2_call0_v83 : Ref sig .tc := ⟨.hbm, 643, rfl⟩
abbrev main_while0b_call2_call0_c_21 : Ref sig .tc := ⟨.hbm, 644, rfl⟩
abbrev main_while0b_call2_call0_v84 : Ref sig .tc := ⟨.hbm, 645, rfl⟩
abbrev main_while0b_call2_call0_v85 : Ref sig .tc := ⟨.hbm, 646, rfl⟩
abbrev main_while0b_call2_call0_v86 : Ref sig .tc := ⟨.hbm, 647, rfl⟩
abbrev main_while0b_call2_call0_v87 : Ref sig .tc := ⟨.hbm, 648, rfl⟩
abbrev main_while0b_call2_call0_v88 : Ref sig .tc := ⟨.hbm, 649, rfl⟩
abbrev main_while0b_call2_call0_c_22 : Ref sig .tc := ⟨.hbm, 650, rfl⟩
abbrev main_while0b_call2_call0_v89 : Ref sig .tc := ⟨.hbm, 651, rfl⟩
abbrev main_while0b_call2_call0_v90 : Ref sig .tc := ⟨.hbm, 652, rfl⟩
abbrev main_while0b_call2_call0_c_23 : Ref sig .tc := ⟨.hbm, 653, rfl⟩
abbrev main_while0b_call2_call0_v91 : Ref sig .tc := ⟨.hbm, 654, rfl⟩
abbrev main_while0b_call2_call0_v92 : Ref sig .tc := ⟨.hbm, 655, rfl⟩
abbrev main_while0b_call2_call0_v93 : Ref sig .tc := ⟨.hbm, 656, rfl⟩
abbrev main_while0b_call2_call0_v94 : Ref sig .tc := ⟨.hbm, 657, rfl⟩
abbrev main_while0b_call2_call0_v95 : Ref sig .tc := ⟨.hbm, 658, rfl⟩
abbrev main_while0b_call2_call0_c_24 : Ref sig .tc := ⟨.hbm, 659, rfl⟩
abbrev main_while0b_call2_call0_v96 : Ref sig .tc := ⟨.hbm, 660, rfl⟩
abbrev main_while0b_call2_call0_v97 : Ref sig .tc := ⟨.hbm, 661, rfl⟩
abbrev main_while0b_call2_call0_c_25 : Ref sig .tc := ⟨.hbm, 662, rfl⟩
abbrev main_while0b_call2_call0_v98 : Ref sig .tc := ⟨.hbm, 663, rfl⟩
abbrev main_while0b_call2_call0_v99 : Ref sig .tc := ⟨.hbm, 664, rfl⟩
abbrev main_while0b_call2_call0_v100 : Ref sig .tc := ⟨.hbm, 665, rfl⟩
abbrev main_while0b_call2_call0_v101 : Ref sig .tc := ⟨.hbm, 666, rfl⟩
abbrev main_while0b_call2_call0_v102 : Ref sig .tc := ⟨.hbm, 667, rfl⟩
abbrev main_while0b_call2_call0_v103 : Ref sig .tc := ⟨.hbm, 668, rfl⟩
abbrev main_while0b_call2_call0_v104 : Ref sig .tc := ⟨.hbm, 669, rfl⟩
abbrev main_while0b_call2_call0_v105 : Ref sig .tc := ⟨.hbm, 670, rfl⟩
abbrev main_while0b_call2_call0_c_26 : Ref sig .tc := ⟨.hbm, 671, rfl⟩
abbrev main_while0b_call2_call0_v106 : Ref sig .tc := ⟨.hbm, 672, rfl⟩
abbrev main_while0b_call2_call0_v107 : Ref sig .tc := ⟨.hbm, 673, rfl⟩
abbrev main_while0b_call2_call0_v108 : Ref sig .tc := ⟨.hbm, 674, rfl⟩
abbrev main_while0b_call2_call0_c_27 : Ref sig .tc := ⟨.hbm, 675, rfl⟩
abbrev main_while0b_call2_call0_v109 : Ref sig .tc := ⟨.hbm, 676, rfl⟩
abbrev main_while0b_call2_call0_v110 : Ref sig .tc := ⟨.hbm, 677, rfl⟩
abbrev main_while0b_call2_call0_c_28 : Ref sig .tc := ⟨.hbm, 678, rfl⟩
abbrev main_while0b_call2_call0_v111 : Ref sig .tc := ⟨.hbm, 679, rfl⟩
abbrev main_while0b_call2_call0_v112 : Ref sig .tc := ⟨.hbm, 680, rfl⟩
abbrev main_while0b_call2_call0_v113 : Ref sig .tc := ⟨.hbm, 681, rfl⟩
abbrev main_while0b_call2_call0_v114 : Ref sig .tc := ⟨.hbm, 682, rfl⟩
abbrev main_while0b_call2_call0_v115 : Ref sig .tc := ⟨.hbm, 683, rfl⟩
abbrev main_while0b_call2_call0_c_29 : Ref sig .tc := ⟨.hbm, 684, rfl⟩
abbrev main_while0b_call2_call0_v116 : Ref sig .tc := ⟨.hbm, 685, rfl⟩
abbrev main_while0b_call2_call0_v117 : Ref sig .tc := ⟨.hbm, 686, rfl⟩
abbrev main_while0b_call2_call0_c_30 : Ref sig .tc := ⟨.hbm, 687, rfl⟩
abbrev main_while0b_call2_call0_v118 : Ref sig .tc := ⟨.hbm, 688, rfl⟩
abbrev main_while0b_call2_call0_v119 : Ref sig .tc := ⟨.hbm, 689, rfl⟩
abbrev main_while0b_call2_call0_v120 : Ref sig .tc := ⟨.hbm, 690, rfl⟩
abbrev main_while0b_call2_call0_v121 : Ref sig .tc := ⟨.hbm, 691, rfl⟩
abbrev main_while0b_call2_call0_v122 : Ref sig .tc := ⟨.hbm, 692, rfl⟩
abbrev main_while0b_call2_call0_c_31 : Ref sig .tc := ⟨.hbm, 693, rfl⟩
abbrev main_while0b_call2_call0_v123 : Ref sig .tc := ⟨.hbm, 694, rfl⟩
abbrev main_while0b_call2_call0_v124 : Ref sig .tc := ⟨.hbm, 695, rfl⟩
abbrev main_while0b_call2_call0_c_32 : Ref sig .tc := ⟨.hbm, 696, rfl⟩
abbrev main_while0b_call2_call0_v125 : Ref sig .tc := ⟨.hbm, 697, rfl⟩
abbrev main_while0b_call2_call0_v126 : Ref sig .tc := ⟨.hbm, 698, rfl⟩
abbrev main_while0b_call2_call0_v127 : Ref sig .tc := ⟨.hbm, 699, rfl⟩
abbrev main_while0b_call2_call0_v128 : Ref sig .tc := ⟨.hbm, 700, rfl⟩
abbrev main_while0b_call2_call0_v129 : Ref sig .tc := ⟨.hbm, 701, rfl⟩
abbrev main_while0b_call2_call0_c_33 : Ref sig .tc := ⟨.hbm, 702, rfl⟩
abbrev main_while0b_call2_call0_v130 : Ref sig .tc := ⟨.hbm, 703, rfl⟩
abbrev main_while0b_call2_call0_v131 : Ref sig .tc := ⟨.hbm, 704, rfl⟩
abbrev main_while0b_call2_call0_c_34 : Ref sig .tc := ⟨.hbm, 705, rfl⟩
abbrev main_while0b_call2_call0_v132 : Ref sig .tc := ⟨.hbm, 706, rfl⟩
abbrev main_while0b_call2_call0_v133 : Ref sig .tc := ⟨.hbm, 707, rfl⟩
abbrev main_while0b_call2_call0_v134 : Ref sig .tc := ⟨.hbm, 708, rfl⟩
abbrev main_while0b_call2_call0_v135 : Ref sig .tc := ⟨.hbm, 709, rfl⟩
abbrev main_while0b_call2_call0_v136 : Ref sig .tc := ⟨.hbm, 710, rfl⟩
abbrev main_while0b_call2_call0_v137 : Ref sig .tc := ⟨.hbm, 711, rfl⟩
abbrev main_while0b_call2_call0_v138 : Ref sig .tc := ⟨.hbm, 712, rfl⟩
abbrev main_while0b_call2_call0_v139 : Ref sig .tc := ⟨.hbm, 713, rfl⟩
abbrev main_while0b_call2_call0_c_35 : Ref sig .tc := ⟨.hbm, 714, rfl⟩
abbrev main_while0b_call2_call0_v140 : Ref sig .tc := ⟨.hbm, 715, rfl⟩
abbrev main_while0b_call2_call0_v141 : Ref sig .tc := ⟨.hbm, 716, rfl⟩
abbrev main_while0b_call2_call0_v142 : Ref sig .tc := ⟨.hbm, 717, rfl⟩
abbrev main_while0b_call2_call0_c_36 : Ref sig .tc := ⟨.hbm, 718, rfl⟩
abbrev main_while0b_call2_call0_v143 : Ref sig .tc := ⟨.hbm, 719, rfl⟩
abbrev main_while0b_call2_call0_v144 : Ref sig .tc := ⟨.hbm, 720, rfl⟩
abbrev main_while0b_call2_call0_c_37 : Ref sig .tc := ⟨.hbm, 721, rfl⟩
abbrev main_while0b_call2_call0_v145 : Ref sig .tc := ⟨.hbm, 722, rfl⟩
abbrev main_while0b_call2_call0_v146 : Ref sig .tc := ⟨.hbm, 723, rfl⟩
abbrev main_while0b_call2_call0_v147 : Ref sig .tc := ⟨.hbm, 724, rfl⟩
abbrev main_while0b_call2_call0_v148 : Ref sig .tc := ⟨.hbm, 725, rfl⟩
abbrev main_while0b_call2_call0_v149 : Ref sig .tc := ⟨.hbm, 726, rfl⟩
abbrev main_while0b_call2_call0_c_38 : Ref sig .tc := ⟨.hbm, 727, rfl⟩
abbrev main_while0b_call2_call0_v150 : Ref sig .tc := ⟨.hbm, 728, rfl⟩
abbrev main_while0b_call2_call0_v151 : Ref sig .tc := ⟨.hbm, 729, rfl⟩
abbrev main_while0b_call2_call0_c_39 : Ref sig .tc := ⟨.hbm, 730, rfl⟩
abbrev main_while0b_call2_call0_v152 : Ref sig .tc := ⟨.hbm, 731, rfl⟩
abbrev main_while0b_call2_call0_v153 : Ref sig .tc := ⟨.hbm, 732, rfl⟩
abbrev main_while0b_call2_call0_v154 : Ref sig .tc := ⟨.hbm, 733, rfl⟩
abbrev main_while0b_call2_call0_v155 : Ref sig .tc := ⟨.hbm, 734, rfl⟩
abbrev main_while0b_call2_call0_v156 : Ref sig .tc := ⟨.hbm, 735, rfl⟩
abbrev main_while0b_call2_call0_c_40 : Ref sig .tc := ⟨.hbm, 736, rfl⟩
abbrev main_while0b_call2_call0_v157 : Ref sig .tc := ⟨.hbm, 737, rfl⟩
abbrev main_while0b_call2_call0_v158 : Ref sig .tc := ⟨.hbm, 738, rfl⟩
abbrev main_while0b_call2_call0_c_41 : Ref sig .tc := ⟨.hbm, 739, rfl⟩
abbrev main_while0b_call2_call0_v159 : Ref sig .tc := ⟨.hbm, 740, rfl⟩
abbrev main_while0b_call2_call0_v160 : Ref sig .tc := ⟨.hbm, 741, rfl⟩
abbrev main_while0b_call2_call0_v161 : Ref sig .tc := ⟨.hbm, 742, rfl⟩
abbrev main_while0b_call2_call0_v162 : Ref sig .tc := ⟨.hbm, 743, rfl⟩
abbrev main_while0b_call2_call0_v163 : Ref sig .tc := ⟨.hbm, 744, rfl⟩
abbrev main_while0b_call2_call0_c_42 : Ref sig .tc := ⟨.hbm, 745, rfl⟩
abbrev main_while0b_call2_call0_v164 : Ref sig .tc := ⟨.hbm, 746, rfl⟩
abbrev main_while0b_call2_call0_v165 : Ref sig .tc := ⟨.hbm, 747, rfl⟩
abbrev main_while0b_call2_call0_c_43 : Ref sig .tc := ⟨.hbm, 748, rfl⟩
abbrev main_while0b_call2_call0_v166 : Ref sig .tc := ⟨.hbm, 749, rfl⟩
abbrev main_while0b_call2_call0_v167 : Ref sig .tc := ⟨.hbm, 750, rfl⟩
abbrev main_while0b_call2_call0_v168 : Ref sig .tc := ⟨.hbm, 751, rfl⟩
abbrev main_while0b_call2_call0_v169 : Ref sig .tc := ⟨.hbm, 752, rfl⟩
abbrev main_while0b_call2_call0_v170 : Ref sig .tc := ⟨.hbm, 753, rfl⟩
abbrev main_while0b_call2_v19_0 : Ref sig .tc := ⟨.hbm, 754, rfl⟩
abbrev main_while0b_call2_call0_v172 : Ref sig .tc := ⟨.hbm, 755, rfl⟩
abbrev main_while0b_call2_call0_v173 : Ref sig .tc := ⟨.hbm, 756, rfl⟩
abbrev main_while0b_call2_call0_c_44 : Ref sig .tc := ⟨.hbm, 757, rfl⟩
abbrev main_while0b_call2_call0_v174 : Ref sig .tc := ⟨.hbm, 758, rfl⟩
abbrev main_while0b_call2_v19_1 : Ref sig .tc := ⟨.hbm, 759, rfl⟩
abbrev main_while0b_call2_v20 : Ref sig .tc := ⟨.hbm, 760, rfl⟩
abbrev main_while0b_call2_c_2 : Ref sig .tc := ⟨.hbm, 761, rfl⟩
abbrev main_while0b_call2_v21 : Ref sig .tc := ⟨.hbm, 762, rfl⟩
abbrev main_while0b_call2_v22 : Ref sig .tc := ⟨.hbm, 763, rfl⟩
abbrev main_while0b_call2_c_3 : Ref sig .tc := ⟨.hbm, 764, rfl⟩
abbrev main_while0b_call2_v23 : Ref sig .tc := ⟨.hbm, 765, rfl⟩
abbrev main_while0b_call2_v24 : Ref sig .tc := ⟨.hbm, 766, rfl⟩
abbrev main_while0b_call2_v25 : Ref sig .tc := ⟨.hbm, 767, rfl⟩
abbrev main_while0b_call2_cst : Ref sig .tc := ⟨.hbm, 768, rfl⟩
abbrev main_while0b_call2_v26 : Ref sig .tc := ⟨.hbm, 769, rfl⟩
abbrev main_while0b_call2_v27 : Ref sig .tc := ⟨.hbm, 770, rfl⟩
abbrev main_while0b_call2_v28 : Ref sig .tc := ⟨.hbm, 771, rfl⟩
abbrev main_while0b_call2_v29 : Ref sig .tc := ⟨.hbm, 772, rfl⟩
abbrev main_while0b_call2_v30 : Ref sig .tc := ⟨.hbm, 773, rfl⟩
abbrev main_while0b_call2_v31 : Ref sig .tc := ⟨.hbm, 774, rfl⟩
abbrev main_while0b_call2_v32 : Ref sig .tc := ⟨.hbm, 775, rfl⟩
abbrev main_while0b_call2_v33 : Ref sig .tc := ⟨.hbm, 776, rfl⟩
abbrev main_while0b_v37 : Ref sig .tc := ⟨.hbm, 777, rfl⟩
abbrev main_while0b_v38 : Ref sig .tc := ⟨.hbm, 778, rfl⟩
abbrev main_while0b_v39 : Ref sig .tc := ⟨.hbm, 779, rfl⟩
abbrev main_while0b_c_18 : Ref sig .tc := ⟨.hbm, 780, rfl⟩
abbrev main_while0b_v40 : Ref sig .tc := ⟨.hbm, 781, rfl⟩
abbrev main_cst_6 : Ref sig .tc := ⟨.hbm, 782, rfl⟩
abbrev main_v13 : Ref sig .tc := ⟨.hbm, 783, rfl⟩
abbrev main_v14 : Ref sig .tc := ⟨.hbm, 784, rfl⟩
abbrev main_c_7 : Ref sig .tc := ⟨.hbm, 785, rfl⟩
abbrev main_v15 : Ref sig .tc := ⟨.hbm, 786, rfl⟩
abbrev main_v16 : Ref sig .tc := ⟨.hbm, 787, rfl⟩
abbrev main_c_8 : Ref sig .tc := ⟨.hbm, 788, rfl⟩
abbrev main_call3_v0 : Ref sig .tc := ⟨.hbm, 789, rfl⟩
abbrev main_call3_v1 : Ref sig .tc := ⟨.hbm, 790, rfl⟩
abbrev main_v17 : Ref sig .tc := ⟨.hbm, 791, rfl⟩
abbrev main_v18 : Ref sig .tc := ⟨.hbm, 792, rfl⟩
abbrev main_v19 : Ref sig .tc := ⟨.hbm, 793, rfl⟩
abbrev main_v20 : Ref sig .tc := ⟨.hbm, 794, rfl⟩
abbrev main_v21 : Ref sig .tc := ⟨.hbm, 795, rfl⟩
abbrev main_call4_c : Ref sig .tc := ⟨.hbm, 796, rfl⟩
abbrev main_call4_v0 : Ref sig .tc := ⟨.hbm, 797, rfl⟩
abbrev main_v22 : Ref sig .tc := ⟨.hbm, 798, rfl⟩
abbrev main_v23 : Ref sig .tc := ⟨.hbm, 799, rfl⟩
abbrev main_v24 : Ref sig .tc := ⟨.hbm, 800, rfl⟩
abbrev main_v25 : Ref sig .tc := ⟨.hbm, 801, rfl⟩

abbrev nD : Nat := 1
abbrev τ : Topo := Topo.v7x

variable {F : FTy → Type} [FloatOps F]

abbrev main_while0_count : Scf.Loop 32 := ⟨0#32, 1073741824#32, 1#32⟩
-- ==== Proof.KI.Loop.lean ====
/-
  The sampler's loop as the kernel runs it.

  Each of the kernel's four strips calls a label of its own; the four label bodies are one text. `tripProg` is that text
  once, over the continuation it calls again; `loop` is what it computes, by fuel; `spec_le` says that the text, entered
  with the subkey table held, leaves the table as it was and hands back `loop`'s state.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody
public import Idealize.ShloMosaic.Lib.Exec
public import Idealize.ShloMosaic.Lib.Scf

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open sWPT (consume produce)

variable {F : FTy → Type} [FloatOps F]

local notation "𝕄" => MT nD τ sig Unit (Elt F) ℕ (UR sig nD τ) ℕ

/-- The label bodies call themselves at fewer trips left; the variant is that number. -/
abbrev 𝒱₀ : Variants := Variants.nat

/-! ### What the loop computes -/

/-- The state a strip's loop carries: trip number, counts, log-products. -/
abbrev St (F : FTy → Type) [FloatOps F] := BitVec 32 × IVec S64x256 32 × FVec F S64x256 .f32

/-- The first word of the subkey table's row `n` (a fixed word where there is no such row). -/
def keyA (T : S40x2.Idx → BitVec 32) (n : BitVec 32) : BitVec 32 :=
  if h : k0_chk1 n then T ((Rect.unit (s := S40x2) (k0_off1 n) S1x1.size (k0_off1_inb n h)).emb
    (Shape.Idx.first (numel1_S1x1.symm ▸ Nat.one_pos))) else 0#32

/-- The second word of that row. -/
def keyB (T : S40x2.Idx → BitVec 32) (n : BitVec 32) : BitVec 32 :=
  if h : k0_chk1 n then T ((Rect.unit (s := S40x2) (k0_off2 n) S1x1.size (k0_off2_inb n h)).emb
    (Shape.Idx.first (numel1_S1x1.symm ▸ Nat.one_pos))) else 0#32

/-- The mantissa bits a trip draws, from the counters and the row's two words. -/
def mantissa (cnt : IVec S64x256 32) (k1 k2 : BitVec 32) : IVec S64x256 32 :=
  k0_pay71 (F := F) k1 k2 (Scalar.xori (Scalar.xori k1 k2) 466688986#32)
    (k0_pay68 (F := F) k1 k2
      (k0_pay54 (F := F) k1 (Scalar.xori (Scalar.xori k1 k2) 466688986#32) (k0_pay42 (F := F) cnt k1 k2) (k0_pay43 (F := F) cnt k1 k2) 1#32)
      (k0_pay55 (F := F) k1 (Scalar.xori (Scalar.xori k1 k2) 466688986#32) (k0_pay42 (F := F) cnt k1 k2) (k0_pay43 (F := F) cnt k1 k2) 1#32)
      (k0_pay56 (F := F) k1 (Scalar.xori (Scalar.xori k1 k2) 466688986#32) (k0_pay42 (F := F) cnt k1 k2) (k0_pay43 (F := F) cnt k1 k2) 1#32)
      k0_pay57)
    (k0_pay69 (F := F) k1 k2
      (k0_pay54 (F := F) k1 (Scalar.xori (Scalar.xori k1 k2) 466688986#32) (k0_pay42 (F := F) cnt k1 k2) (k0_pay43 (F := F) cnt k1 k2) 1#32)
      (k0_pay55 (F := F) k1 (Scalar.xori (Scalar.xori k1 k2) 466688986#32) (k0_pay42 (F := F) cnt k1 k2) (k0_pay43 (F := F) cnt k1 k2) 1#32)
      (k0_pay56 (F := F) k1 (Scalar.xori (Scalar.xori k1 k2) 466688986#32) (k0_pay42 (F := F) cnt k1 k2) (k0_pay43 (F := F) cnt k1 k2) 1#32)
      k0_pay57)
    (k0_pay70 (F := F) k1 k2
      (k0_pay54 (F := F) k1 (Scalar.xori (Scalar.xori k1 k2) 466688986#32) (k0_pay42 (F := F) cnt k1 k2) (k0_pay43 (F := F) cnt k1 k2) 1#32)
      (k0_pay55 (F := F) k1 (Scalar.xori (Scalar.xori k1 k2) 466688986#32) (k0_pay42 (F := F) cnt k1 k2) (k0_pay43 (F := F) cnt k1 k2) 1#32)
      (k0_pay56 (F := F) k1 (Scalar.xori (Scalar.xori k1 k2) 466688986#32) (k0_pay42 (F := F) cnt k1 k2) (k0_pay43 (F := F) cnt k1 k2) 1#32)
      k0_pay57) 8#32

/-- The log-products after a trip. -/
def nextLog (T : S40x2.Idx → BitVec 32) (cnt : IVec S64x256 32) (n : BitVec 32) (l : FVec F S64x256 .f32) : FVec F S64x256 .f32 :=
  k0_pay2 l (mantissa (F := F) cnt (keyA T n) (keyB T n)) k0_pay72

/-- The loop's test: trips left, and some lane still above its rate. -/
def goes (lamN : FVec F S64x256 .f32) (n : BitVec 32) (l : FVec F S64x256 .f32) : BitVec 1 :=
  Scalar.andi (Scalar.cmpi .slt n 40#32) (Scalar.cmpf .ogt (k0_pay1 lamN l) (Scalar.ofBits .f32 0x00000000#32))

/-- The loop's result from a state, at most `fuel` trips on. -/
def loop (T : S40x2.Idx → BitVec 32) (lamN : FVec F S64x256 .f32) (cnt : IVec S64x256 32) :
    ℕ → BitVec 32 → IVec S64x256 32 → FVec F S64x256 .f32 → St F
  | 0, n, k, l => (n, k, l)
  | f + 1, n, k, l =>
    if goes lamN n l = 1#1 then
      loop T lamN cnt f (Scalar.addi n 1#32) (k0_pay33 lamN k l) (nextLog T cnt n l)
    else (n, k, l)

/-! ### The label bodies, as one text -/

/-- The text of a label body over what it calls again. -/
def tripProg (lamN : FVec F S64x256 .f32) (arg2 : Memref sig .tc .smem S40x2 .i32) (cnt : IVec S64x256 32)
    (again : BitVec 32 → IVec S64x256 32 → FVec F S64x256 .f32 → Prog (TpuEff nD τ sig (Elt F) (Λ₀ F) .tc) (St F))
    (n : BitVec 32) (k : IVec S64x256 32) (l : FVec F S64x256 .f32) : Prog (TpuEff nD τ sig (Elt F) (Λ₀ F) .tc) (St F) :=
  if goes lamN n l = 1#1 then
    .op (.assume (k0_chk1 n) (k0_chk1.dec n)) fun h =>
    smemLoadElt arg2 (Rect.unit (s := S40x2) (k0_off1 n) S1x1.size (k0_off1_inb n h.down)) (View.loads_smem_one rfl numel1_S1x1)
      (Shape.Idx.first (numel1_S1x1.symm ▸ Nat.one_pos)) fun k1 : BitVec 32 =>
    smemLoadElt arg2 (Rect.unit (s := S40x2) (k0_off2 n) S1x1.size (k0_off2_inb n h.down)) (View.loads_smem_one rfl numel1_S1x1)
      (Shape.Idx.first (numel1_S1x1.symm ▸ Nat.one_pos)) fun k2 : BitVec 32 =>
    again (Scalar.addi n 1#32) (k0_pay33 lamN k l) (k0_pay2 l (mantissa (F := F) cnt k1 k2) k0_pay72)
  else .ret (n, k, l)

theorem while1_eq (i : grid0.Coords) (lamN : FVec F S64x256 .f32) (arg2 : Memref sig .tc .smem S40x2 .i32) (h2 : arg2.IsWhole)
    (cnt : IVec S64x256 32) (n : BitVec 32) (k : IVec S64x256 32) (l : FVec F S64x256 .f32) :
    cc0_while1 i lamN arg2 h2 cnt n k l
      = tripProg lamN arg2 cnt (fun n k l => .op (.call (1 : (Λ₀ F).Label) ⟨i, lamN, arg2, h2, cnt, n, k, l⟩) .ret) n k l := by
  rw [cc0_while1_eq_skeleton]; rfl

theorem while2_eq (i : grid0.Coords) (lamN : FVec F S64x256 .f32) (arg2 : Memref sig .tc .smem S40x2 .i32) (h2 : arg2.IsWhole)
    (cnt : IVec S64x256 32) (n : BitVec 32) (k : IVec S64x256 32) (l : FVec F S64x256 .f32) :
    cc0_while2 i lamN arg2 h2 cnt n k l
      = tripProg lamN arg2 cnt (fun n k l => .op (.call (2 : (Λ₀ F).Label) ⟨i, lamN, arg2, h2, cnt, n, k, l⟩) .ret) n k l := by
  rw [cc0_while2_eq_skeleton]; rfl

theorem while3_eq (i : grid0.Coords) (lamN : FVec F S64x256 .f32) (arg2 : Memref sig .tc .smem S40x2 .i32) (h2 : arg2.IsWhole)
    (cnt : IVec S64x256 32) (n : BitVec 32) (k : IVec S64x256 32) (l : FVec F S64x256 .f32) :
    cc0_while3 i lamN arg2 h2 cnt n k l
      = tripProg lamN arg2 cnt (fun n k l => .op (.call (3 : (Λ₀ F).Label) ⟨i, lamN, arg2, h2, cnt, n, k, l⟩) .ret) n k l := by
  rw [cc0_while3_eq_skeleton]; rfl

theorem while4_eq (i : grid0.Coords) (lamN : FVec F S64x256 .f32) (arg2 : Memref sig .tc .smem S40x2 .i32) (h2 : arg2.IsWhole)
    (cnt : IVec S64x256 32) (n : BitVec 32) (k : IVec S64x256 32) (l : FVec F S64x256 .f32) :
    cc0_while4 i lamN arg2 h2 cnt n k l
      = tripProg lamN arg2 cnt (fun n k l => .op (.call (4 : (Λ₀ F).Label) ⟨i, lamN, arg2, h2, cnt, n, k, l⟩) .ret) n k l := by
  rw [cc0_while4_eq_skeleton]; rfl

/-! ### The text's triple -/

/-- Holding the subkey table: give it, get it back beside the result `r`. -/
def spec (c : Dev nD) (arg2 : Memref sig .tc .smem S40x2 .i32) (g : arg2.view.ty.Contents (Elt F)) (r : St F) : sWPT 𝕄 (St F) :=
  consume (arg2.view.loc (c : Thread nD τ) ↦[arg2.view.set]{fullShare} g) >>= fun _ =>
    produce (arg2.view.loc (c : Thread nD τ) ↦[arg2.view.set]{fullShare} g) >>= fun _ => pure r

theorem spec_apply (c : Dev nD) (arg2 : Memref sig .tc .smem S40x2 .i32) (g : arg2.view.ty.Contents (Elt F)) (r : St F)
    (K : St F → sProp 𝕄) :
    spec c arg2 g r K = iprop((arg2.view.loc (c : Thread nD τ) ↦[arg2.view.set]{fullShare} g)
      ∗ ((arg2.view.loc (c : Thread nD τ) ↦[arg2.view.set]{fullShare} g) -∗ K r)) := by
  unfold spec; simp only [spec_simps]

/-- A trip number below forty names a row of the table. -/
theorem row_ok (n : BitVec 32) (h : n.toNat < 40) : k0_chk1 n := by
  have e : (Scalar.indexCast n).toNat = n.toNat := by simp [Scalar.indexCast]
  refine ⟨fun a => ?_, fun a => ?_⟩
  · fin_cases a
    · show (Scalar.indexCast n).toNat + 1 ≤ 40; omega
    · show 0 + 1 ≤ 2; omega
  · fin_cases a
    · show (Scalar.indexCast n).toNat + 1 ≤ 40; omega
    · show 1 + 1 ≤ 2; omega

/-- No trips left: the test fails whatever the lanes hold. -/
theorem goes_done (lamN : FVec F S64x256 .f32) (n : BitVec 32) (l : FVec F S64x256 .f32) (h : n.toNat = 40) :
    ¬ goes lamN n l = 1#1 := by
  have : n = 40#32 := BitVec.eq_of_toNat_eq h
  subst this
  unfold goes
  have : Scalar.cmpi .slt (40#32 : BitVec 32) 40#32 = 0#1 := by decide
  rw [this]
  show ¬ (0#1 &&& _) = 1#1
  rw [BitVec.zero_and]; decide

variable (c : Dev nD) (arg2 : Memref sig .tc .smem S40x2 .i32) (g : arg2.view.ty.Contents (Elt F))

/-- The text with no trips left returns its state. -/
theorem trip_done (bd : Option 𝒱₀.V) (lamN : FVec F S64x256 .f32) (cnt : IVec S64x256 32)
    (again : BitVec 32 → IVec S64x256 32 → FVec F S64x256 .f32 → Prog (TpuEff nD τ sig (Elt F) (Λ₀ F) .tc) (St F))
    (n : BitVec 32) (k : IVec S64x256 32) (l : FVec F S64x256 .f32) (hn : n.toNat = 40) (K : St F → sProp 𝕄) :
    spec c arg2 g (n, k, l) K
      ⊢ wp frame (wpE (defs₀ (F := F)) 𝒱₀ (c : Thread nD τ) bd) Set.univ (tripProg lamN arg2 cnt again n k l) K := by
  rw [spec_apply]
  unfold tripProg
  rw [if_neg (goes_done lamN n l hn)]
  iintro ⟨H, Hk⟩
  rw [wp_ret]; imodintro
  iapply Hk; iexact H

/-- A load of one word of the held table continues at that word. -/
theorem wp_word (bd : Option 𝒱₀.V) (r : Rect S40x2) (hw : (arg2.access r).Loads) (x : r.shape.Idx)
    (k : BitVec 32 → Prog (TpuEff nD τ sig (Elt F) (Λ₀ F) .tc) (St F)) (Q : St F → sProp 𝕄) :
    (arg2.view.loc (c : Thread nD τ) ↦[arg2.view.set]{fullShare} g)
      ⊢ iprop(((arg2.view.loc (c : Thread nD τ) ↦[arg2.view.set]{fullShare} g) -∗
          wp frame (wpE (defs₀ (F := F)) 𝒱₀ (c : Thread nD τ) bd) Set.univ (k (arg2.view.read (Elt F) g (r.emb x))) Q)
        -∗ wp frame (wpE (defs₀ (F := F)) 𝒱₀ (c : Thread nD τ) bd) Set.univ (smemLoadElt arg2 r hw x k) Q) := by
  have hS : arg2.view.setOn r.set ⊆ arg2.view.set := View.setOn_subset_set _ _
  exact wp_load 𝒱₀ (c : Thread nD τ) bd Set.univ (m := arg2) (r := r.toLoadRect) (k := fun f => k (f x)) (f := g) hS

/-- The text with `f + 1` trips left, its inner call answered at `f`. -/
theorem trip_step (bd : Option 𝒱₀.V) (lamN : FVec F S64x256 .f32) (cnt : IVec S64x256 32) (f : ℕ)
    (again : BitVec 32 → IVec S64x256 32 → FVec F S64x256 .f32 → Prog (TpuEff nD τ sig (Elt F) (Λ₀ F) .tc) (St F))
    (hagain : ∀ n k l K, n.toNat + f = 40 →
      spec c arg2 g (loop (arg2.view.read (Elt F) g) lamN cnt f n k l) K
        ⊢ wp frame (wpE (defs₀ (F := F)) 𝒱₀ (c : Thread nD τ) bd) Set.univ (again n k l) K)
    (n : BitVec 32) (k : IVec S64x256 32) (l : FVec F S64x256 .f32) (hn : n.toNat + (f + 1) = 40) (K : St F → sProp 𝕄) :
    spec c arg2 g (loop (arg2.view.read (Elt F) g) lamN cnt (f + 1) n k l) K
      ⊢ wp frame (wpE (defs₀ (F := F)) 𝒱₀ (c : Thread nD τ) bd) Set.univ (tripProg lamN arg2 cnt again n k l) K := by
  unfold tripProg loop
  by_cases hg : goes lamN n l = 1#1
  · rw [if_pos hg, if_pos hg, spec_apply]
    have hc : k0_chk1 n := row_ok n (by omega)
    have hs : (Scalar.addi n 1#32).toNat + f = 40 := by
      have : (Scalar.addi n 1#32).toNat = n.toNat + 1 := by
        show (n + 1#32).toNat = _
        rw [BitVec.toNat_add]; simp; omega
      omega
    iintro ⟨H, Hk⟩
    iapply (wp_assume 𝒱₀ (c : Thread nD τ) bd Set.univ hc)
    iapply (wp_word c arg2 g bd) $$ H; iintro H
    iapply (wp_word c arg2 g bd) $$ H; iintro H
    have hA : keyA (arg2.view.read (Elt F) g) n = arg2.view.read (Elt F) g ((Rect.unit (s := S40x2) (k0_off1 n) S1x1.size (k0_off1_inb n hc)).emb
        (Shape.Idx.first (numel1_S1x1.symm ▸ Nat.one_pos))) := dif_pos hc
    have hB : keyB (arg2.view.read (Elt F) g) n = arg2.view.read (Elt F) g ((Rect.unit (s := S40x2) (k0_off2 n) S1x1.size (k0_off2_inb n hc)).emb
        (Shape.Idx.first (numel1_S1x1.symm ▸ Nat.one_pos))) := dif_pos hc
    rw [← hA, ← hB]
    iapply (hagain _ _ _ _ hs)
    rw [spec_apply]
    isplitl [H]; · iexact H
    iexact Hk
  · rw [if_neg hg, if_neg hg, spec_apply]
    iintro ⟨H, Hk⟩
    rw [wp_ret]; imodintro
    iapply Hk; iexact H

/-- A label `again` whose body is the text meets the text's triple, by induction on the trips left. -/
theorem label_le (i : grid0.Coords) (h2 : arg2.IsWhole) (lamN : FVec F S64x256 .f32) (cnt : IVec S64x256 32)
    (prog again : BitVec 32 → IVec S64x256 32 → FVec F S64x256 .f32 → Prog (TpuEff nD τ sig (Elt F) (Λ₀ F) .tc) (St F))
    (hprog : ∀ n k l, prog n k l = tripProg lamN arg2 cnt again n k l)
    (hcall : ∀ (f : ℕ) n k l K r, (∀ K, spec c arg2 g r K ⊢ wp frame (wpE (defs₀ (F := F)) 𝒱₀ (c : Thread nD τ) (some f)) Set.univ (prog n k l) K) →
      spec c arg2 g r K ⊢ wp frame (wpE (defs₀ (F := F)) 𝒱₀ (c : Thread nD τ) (some (f + 1))) Set.univ (again n k l) K) :
    ∀ (f : ℕ) n k l K, n.toNat + f = 40 →
      spec c arg2 g (loop (arg2.view.read (Elt F) g) lamN cnt f n k l) K
        ⊢ wp frame (wpE (defs₀ (F := F)) 𝒱₀ (c : Thread nD τ) (some f)) Set.univ (prog n k l) K := by
  intro f
  induction f with
  | zero => intro n k l K hn; rw [hprog]; exact trip_done c arg2 g _ lamN cnt again n k l hn K
  | succ f ih =>
    intro n k l K hn; rw [hprog]
    exact trip_step c arg2 g _ lamN cnt f again (fun n k l K hn => hcall f n k l K _ fun K => ih n k l K hn) n k l hn K

/-- What a strip's call computes: the loop from no trips made, forty at most. -/
def strip (T : S40x2.Idx → BitVec 32) (lamN : FVec F S64x256 .f32) (cnt : IVec S64x256 32) (k : IVec S64x256 32) (l : FVec F S64x256 .f32) : St F :=
  loop T lamN cnt 40 0#32 k l

end Cert.Proof.KI

end
-- ==== Proof.KI.Body.lean ====
/-
  The kernel's body on one block of 256 elements: four strips of 64 time steps, each a call of the sampler's loop, a
  running maximum down the strip joined to the one carried from the strip before, a comparison and a store.
-/
module

public import proofs.«01_k».proof.Proof.KI.Loop

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open sWPT (consume produce)

variable {F : FTy → Type} [FloatOps F]

local notation "𝕄" => MT nD τ sig Unit (Elt F) ℕ (UR sig nD τ) ℕ

/-- The rectangles of the four strips in the output block. -/
abbrev s0 : Rect S256x256 := Rect.unit (s := S256x256) ![0, 0] S64x256.size inb_S256x256_S64x256_0_0
abbrev s1 : Rect S256x256 := Rect.unit (s := S256x256) ![64, 0] S64x256.size inb_S256x256_S64x256_64_0
abbrev s2 : Rect S256x256 := Rect.unit (s := S256x256) ![128, 0] S64x256.size inb_S256x256_S64x256_128_0
abbrev s3 : Rect S256x256 := Rect.unit (s := S256x256) ![192, 0] S64x256.size inb_S256x256_S64x256_192_0

/-- The body as one text. -/
def bodyProg (i : grid0.Coords) (arg1 : Memref sig .tc .vmem S256 .f32) (arg2 : Memref sig .tc .smem S40x2 .i32) (h2 : arg2.IsWhole)
    (arg3 : Memref sig .tc .vmem S256x256 .i32) : Prog (TpuEff nD τ sig (Elt F) (Λ₀ F) .tc) PUnit :=
  .op (.load arg1 (Rect.unit (s := S256) ![0] S256.size inb_S256_S256_0).toLoadRect (View.loadsAt_vmem h_S256)) fun v0 : Vec F S256 .f32 =>
  .op (.call (1 : (Λ₀ F).Label) ⟨i, k0_pay12 i v0, arg2, h2, k0_pay14 i, 0#32, k0_pay10 i, k0_pay11 (F := F) i⟩) fun r1 : St F =>
  .op (.load arg3 s0.toLoadRect (View.loadsAt_vmem h_S64x256)) fun _ =>
  .op (.store arg3 s0 (k0_pay18 k0_pay13 k0_pay15 (k0_pay16 r1.2.1)) Finset.univ (View.stores_vmem_bits_univ h_S64x256 rfl) (.inl rfl)) fun _ =>
  .op (.call (2 : (Λ₀ F).Label) ⟨i, k0_pay12 i v0, arg2, h2, k0_pay19 (k0_pay9 i), 0#32, k0_pay10 i, k0_pay11 (F := F) i⟩) fun r2 : St F =>
  .op (.load arg3 s1.toLoadRect (View.loadsAt_vmem h_S64x256)) fun _ =>
  .op (.store arg3 s1 (k0_pay24 (k0_pay20 (iota .tc S64x256 32 [0] iota_S64x256_d0_w32)) (k0_pay21 (iota .tc S64x256 32 [0] iota_S64x256_d0_w32) r2.2.1)
    (k0_pay22 k0_pay13 (k0_pay16 r1.2.1))) Finset.univ (View.stores_vmem_bits_univ h_S64x256 rfl) (.inl rfl)) fun _ =>
  .op (.call (3 : (Λ₀ F).Label) ⟨i, k0_pay12 i v0, arg2, h2, k0_pay25 (k0_pay9 i), 0#32, k0_pay10 i, k0_pay11 (F := F) i⟩) fun r3 : St F =>
  .op (.load arg3 s2.toLoadRect (View.loadsAt_vmem h_S64x256)) fun _ =>
  .op (.store arg3 s2 (k0_pay30 (k0_pay29 (iota .tc S64x256 32 [0] iota_S64x256_d0_w32)
      (k0_pay21 (iota .tc S64x256 32 [0] iota_S64x256_d0_w32) r2.2.1) (k0_pay22 k0_pay13 (k0_pay16 r1.2.1)) r3.2.1))
    Finset.univ (View.stores_vmem_bits_univ h_S64x256 rfl) (.inl rfl)) fun _ =>
  .op (.call (4 : (Λ₀ F).Label) ⟨i, k0_pay12 i v0, arg2, h2, k0_pay31 (k0_pay9 i), 0#32, k0_pay10 i, k0_pay11 (F := F) i⟩) fun r4 : St F =>
  .op (.load arg3 s3.toLoadRect (View.loadsAt_vmem h_S64x256)) fun _ =>
  .op (.store arg3 s3 (k0_pay32 (iota .tc S64x256 32 [0] iota_S64x256_d0_w32)
      (k0_pay28 (iota .tc S64x256 32 [0] iota_S64x256_d0_w32)
        (k0_pay21 (iota .tc S64x256 32 [0] iota_S64x256_d0_w32) r2.2.1) (k0_pay22 k0_pay13 (k0_pay16 r1.2.1)) r3.2.1) r4.2.1)
    Finset.univ (View.stores_vmem_bits_univ h_S64x256 rfl) (.inl rfl)) fun _ =>
  .ret ⟨⟩

/-- The printed body is that text. -/
theorem body_eq (i : grid0.Coords) (arg1 : Memref sig .tc .vmem S256 .f32) (h1 : arg1.IsWhole) (arg2 : Memref sig .tc .smem S40x2 .i32) (h2 : arg2.IsWhole)
    (arg3 : Memref sig .tc .vmem S256x256 .i32) (h3 : arg3.IsWhole) :
    cc0__spike_kernel (F := F) i arg1 h1 arg2 h2 arg3 h3 = bodyProg i arg1 arg2 h2 arg3 := by
  rw [cc0__spike_kernel_eq_skeleton]; rfl

/-! ### What the strips compute -/

section Values

variable (i : grid0.Coords) (T : S40x2.Idx → BitVec 32) (X : Vec F S256 .f32)

/-- The counts each strip's loop ends with. -/
def cnt0 : IVec S64x256 32 := (strip T (k0_pay12 i X) (k0_pay14 i) (k0_pay10 i) (k0_pay11 (F := F) i)).2.1
def cnt1 : IVec S64x256 32 := (strip T (k0_pay12 i X) (k0_pay19 (k0_pay9 i)) (k0_pay10 i) (k0_pay11 (F := F) i)).2.1
def cnt2 : IVec S64x256 32 := (strip T (k0_pay12 i X) (k0_pay25 (k0_pay9 i)) (k0_pay10 i) (k0_pay11 (F := F) i)).2.1
def cnt3 : IVec S64x256 32 := (strip T (k0_pay12 i X) (k0_pay31 (k0_pay9 i)) (k0_pay10 i) (k0_pay11 (F := F) i)).2.1

/-- What each strip stores. -/
def row0 : IVec S64x256 32 := k0_pay18 k0_pay13 k0_pay15 (k0_pay16 (cnt0 i T X))
def row1 : IVec S64x256 32 :=
  k0_pay24 (k0_pay20 (iota .tc S64x256 32 [0] iota_S64x256_d0_w32)) (k0_pay21 (iota .tc S64x256 32 [0] iota_S64x256_d0_w32) (cnt1 i T X))
    (k0_pay22 k0_pay13 (k0_pay16 (cnt0 i T X)))
def row2 : IVec S64x256 32 :=
  k0_pay30 (k0_pay29 (iota .tc S64x256 32 [0] iota_S64x256_d0_w32)
    (k0_pay21 (iota .tc S64x256 32 [0] iota_S64x256_d0_w32) (cnt1 i T X)) (k0_pay22 k0_pay13 (k0_pay16 (cnt0 i T X))) (cnt2 i T X))
def row3 : IVec S64x256 32 :=
  k0_pay32 (iota .tc S64x256 32 [0] iota_S64x256_d0_w32)
    (k0_pay28 (iota .tc S64x256 32 [0] iota_S64x256_d0_w32)
      (k0_pay21 (iota .tc S64x256 32 [0] iota_S64x256_d0_w32) (cnt1 i T X)) (k0_pay22 k0_pay13 (k0_pay16 (cnt0 i T X))) (cnt2 i T X)) (cnt3 i T X)

end Values

/-- The place of a block's element within its strip. -/
def inStrip (y : S256x256.Idx) : S64x256.Idx
  | 0 => ⟨(y 0).val % 64, Nat.mod_lt _ (by decide)⟩
  | 1 => ⟨(y 1).val, (y 1).isLt⟩

/-- The output block: its four strips, one below the other. -/
def outBlk (i : grid0.Coords) (T : S40x2.Idx → BitVec 32) (X : Vec F S256 .f32) : S256x256.Idx → BitVec 32 := fun y =>
  if (y 0).val < 64 then row0 i T X (inStrip y) else if (y 0).val < 128 then row1 i T X (inStrip y)
  else if (y 0).val < 192 then row2 i T X (inStrip y) else row3 i T X (inStrip y)

/-- Four stores over the four strips leave the block they make, whatever was there. -/
theorem read_stores (arg3 : Memref sig .tc .vmem S256x256 .i32) (g : arg3.view.ty.Contents (Elt F)) (w0 w1 w2 w3 : IVec S64x256 32) :
    arg3.view.read (Elt F) ((arg3.access s3).write (Elt F) ((arg3.access s2).write (Elt F) ((arg3.access s1).write (Elt F)
      ((arg3.access s0).write (Elt F) g w0 Finset.univ) w1 Finset.univ) w2 Finset.univ) w3 Finset.univ)
    = fun y => if (y 0).val < 64 then w0 (inStrip y) else if (y 0).val < 128 then w1 (inStrip y)
      else if (y 0).val < 192 then w2 (inStrip y) else w3 (inStrip y) := by
  have hv : ∀ (o : Fin 2 → ℕ) (inb) (z : S64x256.Idx) (a : Fin 2),
      ((Rect.unit (s := S256x256) o S64x256.size inb).emb z a).val = o a + (z a).val := fun o inb z a => by
    show o a + 1 * (z a).val = _; omega
  have miss : ∀ (o : ℕ) (inb) (y : S256x256.Idx), (y 0).val < o ∨ o + 64 ≤ (y 0).val →
      y ∉ Finset.univ.map (Rect.unit (s := S256x256) ![o, 0] S64x256.size inb).emb := fun o inb y h hm => by
    obtain ⟨z, -, rfl⟩ := Finset.mem_map.mp hm
    rw [hv] at h
    have hz : (z 0).val < 64 := (z 0).isLt
    have : (![o, 0] : Fin 2 → ℕ) 0 = o := rfl
    omega
  have hit : ∀ (o : ℕ) (inb) (y : S256x256.Idx), o % 64 = 0 → o ≤ (y 0).val → (y 0).val < o + 64 →
      y = (Rect.unit (s := S256x256) ![o, 0] S64x256.size inb).emb (inStrip y) := fun o inb y h0 h1 h2 => by
    funext a; apply Fin.ext; rw [hv]
    match a with
    | 0 => show (y 0).val = o + (y 0).val % 64; omega
    | 1 => show (y 1).val = 0 + (y 1).val; omega
  funext y
  have hy : (y 0).val < 256 := (y 0).isLt
  by_cases h0 : (y 0).val < 64
  · rw [if_pos h0, View.read_slice_write_of_not_mem _ _ _ _ (miss 192 _ y (by omega)), View.read_slice_write_of_not_mem _ _ _ _ (miss 128 _ y (by omega)),
      View.read_slice_write_of_not_mem _ _ _ _ (miss 64 _ y (by omega))]
    conv_lhs => rw [hit 0 inb_S256x256_S64x256_0_0 y rfl (by omega) (by omega)]
    exact View.read_slice_write_emb _ _ _ (Finset.mem_univ _)
  rw [if_neg h0]
  by_cases h1 : (y 0).val < 128
  · rw [if_pos h1, View.read_slice_write_of_not_mem _ _ _ _ (miss 192 _ y (by omega)), View.read_slice_write_of_not_mem _ _ _ _ (miss 128 _ y (by omega))]
    conv_lhs => rw [hit 64 inb_S256x256_S64x256_64_0 y rfl (by omega) (by omega)]
    exact View.read_slice_write_emb _ _ _ (Finset.mem_univ _)
  rw [if_neg h1]
  by_cases h2 : (y 0).val < 192
  · rw [if_pos h2, View.read_slice_write_of_not_mem _ _ _ _ (miss 192 _ y (by omega))]
    conv_lhs => rw [hit 128 inb_S256x256_S64x256_128_0 y rfl (by omega) (by omega)]
    exact View.read_slice_write_emb _ _ _ (Finset.mem_univ _)
  rw [if_neg h2]
  conv_lhs => rw [hit 192 inb_S256x256_S64x256_192_0 y rfl (by omega) (by omega)]
  exact View.read_slice_write_emb _ _ _ (Finset.mem_univ _)

/-! ### The four calls -/

section Calls

variable (c : Dev nD) (arg2 : Memref sig .tc .smem S40x2 .i32) (h2 : arg2.IsWhole) (g : arg2.view.ty.Contents (Elt F)) (i : grid0.Coords)
  (lamN : FVec F S64x256 .f32) (cnt k : IVec S64x256 32) (l : FVec F S64x256 .f32)

/-- What a call's caller is owed after it returns: the value, at once. -/
theorem spec_ret (r : St F) (K : St F → sProp 𝕄) (bd : Option 𝒱₀.V) :
    spec c arg2 g r K ⊢ spec c arg2 g r (fun x => wp frame (wpE (defs₀ (F := F)) 𝒱₀ (c : Thread nD τ) bd) Set.univ (.ret x) K) := by
  rw [spec_apply, spec_apply]; exact sep_mono_right (wand_mono_right (le_wp_ret _ _ _ r K))

/-- The first label from no trips made. -/
theorem call1 : spec c arg2 g (strip (arg2.view.read (Elt F) g) lamN cnt k l)
    ≤ wp frame (wpE (defs₀ (F := F)) 𝒱₀ (c : Thread nD τ) (some 40)) Set.univ (defs₀ .tc (1 : (Λ₀ F).Label) ⟨i, lamN, arg2, h2, cnt, 0#32, k, l⟩) := by
  intro K
  refine label_le c arg2 g i h2 lamN cnt (cc0_while1 i lamN arg2 h2 cnt)
    (fun n k l => .op (.call (1 : (Λ₀ F).Label) ⟨i, lamN, arg2, h2, cnt, n, k, l⟩) .ret) (while1_eq i lamN arg2 h2 cnt) ?_ 40 0#32 k l K rfl
  intro f n k l K r h
  exact (spec_ret c arg2 g r K _).trans (wp_call_spec 𝒱₀ (c : Thread nD τ) (some (f + 1)) Set.univ (ℓ := (1 : (Λ₀ F).Label))
    (a := ⟨i, lamN, arg2, h2, cnt, n, k, l⟩) (spec c arg2 g r) f (fun u hu => by cases hu; exact Nat.lt_succ_self f) h)

/-- The second label from no trips made. -/
theorem call2 : spec c arg2 g (strip (arg2.view.read (Elt F) g) lamN cnt k l)
    ≤ wp frame (wpE (defs₀ (F := F)) 𝒱₀ (c : Thread nD τ) (some 40)) Set.univ (defs₀ .tc (2 : (Λ₀ F).Label) ⟨i, lamN, arg2, h2, cnt, 0#32, k, l⟩) := by
  intro K
  refine label_le c arg2 g i h2 lamN cnt (cc0_while2 i lamN arg2 h2 cnt)
    (fun n k l => .op (.call (2 : (Λ₀ F).Label) ⟨i, lamN, arg2, h2, cnt, n, k, l⟩) .ret) (while2_eq i lamN arg2 h2 cnt) ?_ 40 0#32 k l K rfl
  intro f n k l K r h
  exact (spec_ret c arg2 g r K _).trans (wp_call_spec 𝒱₀ (c : Thread nD τ) (some (f + 1)) Set.univ (ℓ := (2 : (Λ₀ F).Label))
    (a := ⟨i, lamN, arg2, h2, cnt, n, k, l⟩) (spec c arg2 g r) f (fun u hu => by cases hu; exact Nat.lt_succ_self f) h)

/-- The third label from no trips made. -/
theorem call3 : spec c arg2 g (strip (arg2.view.read (Elt F) g) lamN cnt k l)
    ≤ wp frame (wpE (defs₀ (F := F)) 𝒱₀ (c : Thread nD τ) (some 40)) Set.univ (defs₀ .tc (3 : (Λ₀ F).Label) ⟨i, lamN, arg2, h2, cnt, 0#32, k, l⟩) := by
  intro K
  refine label_le c arg2 g i h2 lamN cnt (cc0_while3 i lamN arg2 h2 cnt)
    (fun n k l => .op (.call (3 : (Λ₀ F).Label) ⟨i, lamN, arg2, h2, cnt, n, k, l⟩) .ret) (while3_eq i lamN arg2 h2 cnt) ?_ 40 0#32 k l K rfl
  intro f n k l K r h
  exact (spec_ret c arg2 g r K _).trans (wp_call_spec 𝒱₀ (c : Thread nD τ) (some (f + 1)) Set.univ (ℓ := (3 : (Λ₀ F).Label))
    (a := ⟨i, lamN, arg2, h2, cnt, n, k, l⟩) (spec c arg2 g r) f (fun u hu => by cases hu; exact Nat.lt_succ_self f) h)

/-- The fourth label from no trips made. -/
theorem call4 : spec c arg2 g (strip (arg2.view.read (Elt F) g) lamN cnt k l)
    ≤ wp frame (wpE (defs₀ (F := F)) 𝒱₀ (c : Thread nD τ) (some 40)) Set.univ (defs₀ .tc (4 : (Λ₀ F).Label) ⟨i, lamN, arg2, h2, cnt, 0#32, k, l⟩) := by
  intro K
  refine label_le c arg2 g i h2 lamN cnt (cc0_while4 i lamN arg2 h2 cnt)
    (fun n k l => .op (.call (4 : (Λ₀ F).Label) ⟨i, lamN, arg2, h2, cnt, n, k, l⟩) .ret) (while4_eq i lamN arg2 h2 cnt) ?_ 40 0#32 k l K rfl
  intro f n k l K r h
  exact (spec_ret c arg2 g r K _).trans (wp_call_spec 𝒱₀ (c : Thread nD τ) (some (f + 1)) Set.univ (ℓ := (4 : (Λ₀ F).Label))
    (a := ⟨i, lamN, arg2, h2, cnt, n, k, l⟩) (spec c arg2 g r) f (fun u hu => by cases hu; exact Nat.lt_succ_self f) h)

end Calls

end Cert.Proof.KI

end
-- ==== Proof.Above.lean ====
/-
  When a maximum of words is above a bound.
-/
module

public import Idealize.ShloMosaic.PureOps.Ideal

@[expose] public section

namespace Cert.Proof.Above

open Idealize.ShloMosaic

/-- The word `x`, as a signed number, is above `b`. -/
def Above (b : ℤ) (x : BitVec 32) : Prop := b < x.toInt

/-- A maximum is above the bound when one of its operands is. -/
theorem above_max (b : ℤ) (x y : BitVec 32) : Above b (IntOp.maxsi x y) ↔ Above b x ∨ Above b y := by
  unfold Above IntOp.maxsi
  split <;> rename_i h <;> simp only [BitVec.slt, decide_eq_true_eq] at h <;> omega

/-- Likewise the maximum of a list. -/
theorem above_fold {ι : Type} (b : ℤ) (g : ι → BitVec 32) (l : List ι) (v : BitVec 32) :
    Above b (l.foldl (fun r n => IntOp.maxsi r (g n)) v) ↔ Above b v ∨ ∃ n ∈ l, Above b (g n) := by
  induction l generalizing v with
  | nil => simp
  | cons a l ih => simp only [List.foldl_cons, ih, above_max, List.mem_cons, exists_eq_or_imp, or_assoc]

/-- The least word is above no bound that is not below zero. -/
theorem not_above_least {b : ℤ} (hb : 0 ≤ b) : ¬ Above b 2147483648#32 := by
  unfold Above
  have : (2147483648#32 : BitVec 32).toInt = -2147483648 := by decide
  omega

/-- The signed comparison of a word with a small number. -/
theorem sgt_iff (x : BitVec 32) {j : ℕ} (hj : j < 2 ^ 31) : IntOp.cmpi .sgt x (BitVec.ofNat 32 j) = 1#1 ↔ Above j x := by
  have h : (BitVec.ofNat 32 j).toInt = j := by
    rw [BitVec.toInt_eq_toNat_bmod, BitVec.toNat_ofNat, Int.bmod_def]
    split <;> omega
  unfold Above IntOp.cmpi
  show BitVec.ofBool (decide ((BitVec.ofNat 32 j).toInt < x.toInt)) = 1#1 ↔ _
  rw [h]
  by_cases hx : (j : ℤ) < x.toInt <;> simp [hx]

end Cert.Proof.Above
-- ==== Proof.Threefry.lean ====
/-
  The threefry generator on one lane, as a function of words: twenty rounds in five groups of four, the key words added
  after each group. Both programs spell it over whole arrays; here it is written once for one element.
-/
module

public import Idealize.ShloMosaic.PureOps.Ideal

@[expose] public section

namespace Cert.Proof.Threefry

/-- A word rotated to the left by `r`, as the two shifts both programs write. -/
def rot (r : ℕ) (x : BitVec 32) : BitVec 32 := x <<< r ||| x >>> (32 - r)

/-- One round on the pair of words, `xr` being the exclusive or in the order the program writes its operands. -/
def mix (xr : BitVec 32 → BitVec 32 → BitVec 32) (r : ℕ) (x : BitVec 32 × BitVec 32) : BitVec 32 × BitVec 32 :=
  (x.1 + x.2, xr (rot r x.2) (x.1 + x.2))

/-- Four rounds. -/
def quad (xr : BitVec 32 → BitVec 32 → BitVec 32) (r₁ r₂ r₃ r₄ : ℕ) (x : BitVec 32 × BitVec 32) : BitVec 32 × BitVec 32 :=
  mix xr r₄ (mix xr r₃ (mix xr r₂ (mix xr r₁ x)))

/-- Key words added to the pair, with the group's number on the second. -/
def inject (a b n : BitVec 32) (x : BitVec 32 × BitVec 32) : BitVec 32 × BitVec 32 := (x.1 + a, x.2 + b + n)

/-- The third key word. -/
def third (k1 k2 : BitVec 32) : BitVec 32 := k1 ^^^ k2 ^^^ 466688986#32

/-- The first four rounds, from a pair to which the key has been added, and the key words after them. -/
def group1 (xr : BitVec 32 → BitVec 32 → BitVec 32) (k1 k2 : BitVec 32) (x : BitVec 32 × BitVec 32) : BitVec 32 × BitVec 32 :=
  inject k2 (third k1 k2) 1#32 (quad xr 13 15 26 6 x)
/-- Rounds five to eight. -/
def group2 (xr : BitVec 32 → BitVec 32 → BitVec 32) (k1 k2 : BitVec 32) (x : BitVec 32 × BitVec 32) : BitVec 32 × BitVec 32 :=
  inject (third k1 k2) k1 2#32 (quad xr 17 29 16 24 x)
/-- Rounds nine to twelve. -/
def group3 (xr : BitVec 32 → BitVec 32 → BitVec 32) (k1 k2 : BitVec 32) (x : BitVec 32 × BitVec 32) : BitVec 32 × BitVec 32 :=
  inject k1 k2 3#32 (quad xr 13 15 26 6 x)
/-- Rounds thirteen to sixteen. -/
def group4 (xr : BitVec 32 → BitVec 32 → BitVec 32) (k1 k2 : BitVec 32) (x : BitVec 32 × BitVec 32) : BitVec 32 × BitVec 32 :=
  inject k2 (third k1 k2) 4#32 (quad xr 17 29 16 24 x)
/-- Rounds seventeen to twenty. -/
def group5 (xr : BitVec 32 → BitVec 32 → BitVec 32) (k1 k2 : BitVec 32) (x : BitVec 32 × BitVec 32) : BitVec 32 × BitVec 32 :=
  inject (third k1 k2) k1 5#32 (quad xr 13 15 26 6 x)

/-- The words of one lane: the three words of the key, and the pair in hand. -/
abbrev Words : Type := BitVec 32 × BitVec 32 × BitVec 32 × BitVec 32 × BitVec 32

/-- The words after four rounds with the rotations `r`, the `a`-th and `b`-th of the key's words and the number `n` added. -/
abbrev step (xr : BitVec 32 → BitVec 32 → BitVec 32) (r₁ r₂ r₃ r₄ : ℕ) (a b : Words → BitVec 32) (n : BitVec 32) (w : Words) : Words :=
  (w.1, w.2.1, w.2.2.1, inject (a w) (b w) n (quad xr r₁ r₂ r₃ r₄ w.2.2.2))
/-- The five groups on the words of a lane. -/
abbrev step1 (xr : BitVec 32 → BitVec 32 → BitVec 32) : Words → Words := step xr 13 15 26 6 (·.2.1) (·.2.2.1) 1#32
@[inherit_doc step1]
abbrev step2 (xr : BitVec 32 → BitVec 32 → BitVec 32) : Words → Words := step xr 17 29 16 24 (·.2.2.1) (·.1) 2#32
@[inherit_doc step1]
abbrev step3 (xr : BitVec 32 → BitVec 32 → BitVec 32) : Words → Words := step xr 13 15 26 6 (·.1) (·.2.1) 3#32
@[inherit_doc step1]
abbrev step4 (xr : BitVec 32 → BitVec 32 → BitVec 32) : Words → Words := step xr 17 29 16 24 (·.2.1) (·.2.2.1) 4#32
@[inherit_doc step1]
abbrev step5 (xr : BitVec 32 → BitVec 32 → BitVec 32) : Words → Words := step xr 13 15 26 6 (·.2.2.1) (·.1) 5#32

/-- The generator: the two words of the counter under the two words of the key. -/
def threefry (xr : BitVec 32 → BitVec 32 → BitVec 32) (k1 k2 : BitVec 32) (c : BitVec 32 × BitVec 32) : BitVec 32 × BitVec 32 :=
  group5 xr k1 k2 (group4 xr k1 k2 (group3 xr k1 k2 (group2 xr k1 k2 (group1 xr k1 k2 (c.1 + k1, c.2 + k2)))))

/-- The words of a lane before the first round: the key `(k1, k2)` and the counter `(a, b)` plus it. -/
abbrev start (k1 k2 a b : BitVec 32) : Words := (k1, k2, third k1 k2, a + k1, b + k2)

/-- The five groups, from the counter plus the key, are the generator. -/
theorem steps (xr : BitVec 32 → BitVec 32 → BitVec 32) (k1 k2 a b : BitVec 32) :
    step5 xr (step4 xr (step3 xr (step2 xr (step1 xr (start k1 k2 a b)))))
      = (k1, k2, third k1 k2, threefry xr k1 k2 (a, b)) := by
  simp only [step1, step2, step3, step4, step5, step, start, threefry, group1, group2, group3, group4, group5]

/-- The exclusive or, rotated word first. -/
abbrev xrL (r a : BitVec 32) : BitVec 32 := r ^^^ a
/-- The exclusive or, rotated word last. -/
abbrev xrR (r a : BitVec 32) : BitVec 32 := a ^^^ r

theorem xrR_eq : xrR = xrL := funext fun r => funext fun a => BitVec.xor_comm a r

/-- The 23 mantissa bits of an element's draw, from the key and the element's number. -/
def mant (k1 k2 c : BitVec 32) : BitVec 32 :=
  ((threefry xrL k1 k2 (0#32, c)).1 ^^^ (threefry xrL k1 k2 (0#32, c)).2) >>> 9

end Cert.Proof.Threefry

end
-- ==== Proof.Model.lean ====
/-
  One neuron's count at one time step, as mathematics: the sum of logarithms of uniform draws, how often it is above
  the negated rate, and that once it is not above it never is again.
-/
module

public import proofs.«01_k».proof.Proof.Threefry
public import Idealize.ShloMosaic.Lib.IdealHost

@[expose] public section

noncomputable section

namespace Cert.Proof.Model

open Idealize.ShloMosaic Cert.Proof.Threefry

/-- The uniform draw with mantissa bits `w`: the number in `[1, 2)` with those bits, less one. -/
def unit (w : BitVec 32) : EReal := Ideal.ofBits .f32 (w ||| 1065353216#32) - 1

/-- It is the fraction the mantissa bits spell. -/
theorem unit_eq (w : BitVec 32) (hw : w.toNat < 2 ^ 23) : unit w = (((w.toNat : ℝ) / 2 ^ 23 : ℝ) : EReal) := by
  have hn : (w ||| 1065353216#32).toNat = 2 ^ 23 * 127 + w.toNat := by
    rw [BitVec.toNat_or, Nat.two_pow_add_eq_or_of_lt hw, Nat.or_comm]; rfl
  have e1 : (w ||| 1065353216#32).extractLsb' 31 1 = 0#1 := by
    apply BitVec.eq_of_toNat_eq
    rw [BitVec.extractLsb'_toNat, hn, Nat.shiftRight_eq_div_pow]
    show _ = 0
    omega
  have e2 : ((w ||| 1065353216#32).extractLsb' 23 8).toNat = 127 := by
    rw [BitVec.extractLsb'_toNat, hn, Nat.shiftRight_eq_div_pow]
    omega
  have e3 : ((w ||| 1065353216#32).extractLsb' 0 23).toNat = w.toNat := by
    rw [BitVec.extractLsb'_toNat, hn, Nat.shiftRight_eq_div_pow]
    omega
  unfold unit
  show Ideal.ieee 8 23 (w ||| 1065353216#32) - 1 = _
  unfold Ideal.ieee
  simp only [e1, e2, e3, Nat.reduceAdd]
  rw [if_neg (by norm_num), if_neg (by norm_num), ← EReal.coe_one, ← EReal.coe_sub]
  congr 1
  norm_num
  ring

theorem mant_lt (k1 k2 c : BitVec 32) : (mant k1 k2 c).toNat < 2 ^ 23 := by
  unfold mant
  rw [BitVec.toNat_ushiftRight, Nat.shiftRight_eq_div_pow]
  have := ((threefry xrL k1 k2 (0#32, c)).1 ^^^ (threefry xrL k1 k2 (0#32, c)).2).isLt
  omega

theorem unit_nonneg (w : BitVec 32) (hw : w.toNat < 2 ^ 23) : 0 ≤ unit w := by
  rw [unit_eq w hw]
  exact EReal.coe_nonneg.mpr (by positivity)

/-- The logarithm of a draw is not positive. -/
theorem log_unit (w : BitVec 32) (hw : w.toNat < 2 ^ 23) : Ideal.log (unit w) ≤ 0 := by
  rw [unit_eq w hw, Ideal.log_coe]
  split
  · exact bot_le
  · have h : ((w.toNat : ℝ) / 2 ^ 23) ≤ 1 := by
      rw [div_le_one (by positivity)]
      exact_mod_cast hw.le
    exact_mod_cast Real.log_nonpos (by positivity) h

/-- The keys of the loop: the seed's key with one folded in, then the first key of each split. -/
def chain : ℕ → BitVec 32 × BitVec 32
  | 0 => threefry xrL 0#32 0#32 (0#32, 1#32)
  | n + 1 => threefry xrL (chain n).1 (chain n).2 (0#32, 0#32)

/-- The key of a trip's draw: the second key of the split. -/
def subkey (n : ℕ) : BitVec 32 × BitVec 32 := threefry xrL (chain n).1 (chain n).2 (0#32, 1#32)

variable (keys : ℕ → BitVec 32 × BitVec 32) (c : BitVec 32)

/-- The sum of the first draws' logarithms, for the element numbered `c`. -/
def logp : ℕ → EReal
  | 0 => 0
  | n + 1 => logp n + Ideal.log (unit (mant (keys n).1 (keys n).2 c))

theorem logp_antitone : Antitone (logp keys c) := antitone_nat_of_succ_le fun n => by
  have h := add_le_add_right (log_unit _ (mant_lt (keys n).1 (keys n).2 c)) (logp keys c n)
  rw [add_zero] at h
  exact h

variable (lamN : EReal)

/-- How many of the first sums are above `lamN`. -/
def count : ℕ → BitVec 32
  | 0 => 0#32
  | n + 1 => if lamN < logp keys c n then count n + 1#32 else count n

/-- Once a sum is not above, the count stays. -/
theorem count_stop {n : ℕ} (h : ¬ lamN < logp keys c n) {m : ℕ} (hm : n ≤ m) : count keys c lamN m = count keys c lamN n := by
  induction m, hm using Nat.le_induction with
  | base => rfl
  | succ m hm ih =>
    rw [count, if_neg (fun h' => h (h'.trans_le (logp_antitone keys c hm))), ih]

theorem count_le (n : ℕ) (hn : n < 2 ^ 32) : (count keys c lamN n).toNat ≤ n := by
  induction n with
  | zero => exact le_rfl
  | succ n ih =>
    have h := ih (by omega)
    rw [count]
    split
    · rw [BitVec.toNat_add]
      show (_ + 1) % _ ≤ _
      omega
    · omega

/-- A longer count is not less. -/
theorem count_mono {n m : ℕ} (h : n ≤ m) (hm : m < 2 ^ 32) : (count keys c lamN n).toNat ≤ (count keys c lamN m).toNat := by
  induction m, h using Nat.le_induction with
  | base => exact le_rfl
  | succ m hnm ih =>
    have h1 := ih (by omega)
    have h2 := count_le keys c lamN m (by omega)
    rw [count]
    split
    · rw [BitVec.toNat_add]
      show _ ≤ (_ + 1) % _
      omega
    · exact h1

/-- While the sums are above, each one counts. -/
theorem lt_count {n : ℕ} (h : lamN < logp keys c n) {m : ℕ} (hm : n < m) (hm' : m < 2 ^ 32) : n < (count keys c lamN m).toNat := by
  have e : ∀ k ≤ n + 1, (count keys c lamN k).toNat = k := fun k hk => by
    induction k with
    | zero => rfl
    | succ k ih =>
      rw [count, if_pos (h.trans_le (logp_antitone keys c (by omega))), BitVec.toNat_add, ih (by omega)]
      show (k + 1) % _ = _
      omega
  have := count_mono keys c lamN (show n + 1 ≤ m from hm) hm'
  rw [e (n + 1) le_rfl] at this
  omega

/-- At rate zero the count is zero. -/
theorem count_zero (n : ℕ) : count keys c 0 n = 0#32 := by
  have h := count_stop keys c 0 (n := 0) (show ¬ (0 : EReal) < 0 from lt_irrefl _) (Nat.zero_le n)
  exact h

/-- A spike at time `j`: some time step not after `j`, plus its count, plus none of a one, reaches past `j`. -/
def Spike (K : ℕ → BitVec 32) (j : ℕ) : Prop := ∃ j' ≤ j, (j : ℤ) < j' + (K j').toNat - 1

/-- A time step plus its count less one, in 32-bit words, compared with `j` as the numbers are. -/
theorem ends_toInt {K : BitVec 32} (hK : K.toNat ≤ 2 ^ 30) {j' : ℕ} (hj : j' < 256) :
    (BitVec.ofNat 32 j' + K - 1#32).toInt = j' + K.toNat - 1 := by
  rw [BitVec.toInt_eq_toNat_bmod, BitVec.toNat_sub, BitVec.toNat_add, BitVec.toNat_ofNat]
  show Int.bmod (((2 ^ 32 - 1 + (j' % 2 ^ 32 + K.toNat) % 2 ^ 32) % 2 ^ 32 : ℕ) : ℤ) (2 ^ 32) = _
  rw [Int.bmod_def]
  split <;> omega

end Cert.Proof.Model

end
-- ==== Proof.KI.Scan.lean ====
/-
  The kernel's running maximum down a strip of 64 rows, and across strips: six steps of shifting the rows down by a power of two
  and taking maxima, then a maximum with the last row of the strip before.
-/
module

public import proofs.«01_k».proof.Proof.KI.Body
public import proofs.«01_k».proof.Proof.Above
public import proofs.«01_k».proof.Proof.Model
public import Idealize.ShloMosaic.Lib.Pipeline.ValueKit
public import Idealize.ShloMosaic.Lib.Pointwise

@[expose] public section

noncomputable section

namespace Cert.Proof.KI

open Idealize.ShloMosaic Cert.KernelIdeal Cert.KernelIdeal.Gen Cert.Proof.Above

/-- The rows moved down, the rows above filled with the least word, and the maximum with the rows as they were. -/
def up (A B : Shape) (hc : Shape.Concatenates [A, B] S64x256 0) (hs : S64x256.Slices ![0, 0] B) (v : IVec S64x256 32) : IVec S64x256 32 :=
  maxsi v (concatenate S64x256 0 [⟨A, broadcast A 2147483648#32⟩, ⟨B, extractStridedSlice B ![0, 0] v hs⟩] hc)

/-- Such a step by `s` rows: a row comes out above a bound when it was, or the row `s` above it was. -/
theorem above_up (s u : ℕ) (hsu : s + u = 64) (hc : Shape.Concatenates [(⟨2, ![s, 256]⟩ : Shape), ⟨2, ![u, 256]⟩] S64x256 0)
    (hs : S64x256.Slices ![0, 0] (⟨2, ![u, 256]⟩ : Shape)) (v : IVec S64x256 32) {b : ℤ} (hb : 0 ≤ b) (r : Fin 64) (c : Fin 256) :
    Above b (up ⟨2, ![s, 256]⟩ ⟨2, ![u, 256]⟩ hc hs v (ix2 r c))
      ↔ Above b (v (ix2 r c)) ∨ ∃ r' : Fin 64, r'.val + s = r.val ∧ Above b (v (ix2 r' c)) := by
  refine (above_max b _ _).trans (or_congr Iff.rfl ?_)
  by_cases hr : r.val < s
  · rw [concatenate_pair_apply_left 0 _ _ hc (ix2 r c) rfl (ix2 (⟨r.val, hr⟩ : Fin s) c) (fun a => by fin_cases a <;> rfl)]
    exact iff_of_false (not_above_least hb) (by rintro ⟨r', h, -⟩; omega)
  · have hu : r.val - s < u := by have := r.isLt; omega
    rw [concatenate_pair_apply_right 0 _ _ hc (ix2 r c) rfl rfl (ix2 (⟨r.val - s, hu⟩ : Fin u) c)
      (fun a ha => by fin_cases a <;> first | exact absurd rfl ha | rfl) (show r.val - s + s = r.val by omega)]
    have e : extractStridedSlice (⟨2, ![u, 256]⟩ : Shape) ![0, 0] v hs (ix2 (⟨r.val - s, hu⟩ : Fin u) c)
        = v (ix2 (⟨r.val - s, by omega⟩ : Fin 64) c) := by
      unfold extractStridedSlice
      congr 1
      funext a
      apply Fin.ext
      fin_cases a
      · show 0 + (r.val - s) = r.val - s; omega
      · show 0 + c.val = c.val; omega
    rw [e]
    refine ⟨fun h => ⟨⟨r.val - s, by omega⟩, by show r.val - s + s = r.val; omega, h⟩, ?_⟩
    rintro ⟨r', h, h'⟩
    have : r' = ⟨r.val - s, by omega⟩ := Fin.ext (by show r'.val = r.val - s; omega)
    rwa [this] at h'

/-- The rows of a column that are above a bound are those within `w` rows below a row where `P` holds. -/
def Within (b : ℤ) (v : IVec S64x256 32) (c : Fin 256) (w : ℕ) (P : ℕ → Prop) : Prop :=
  ∀ r : Fin 64, Above b (v (ix2 r c)) ↔ ∃ r' ≤ r.val, r.val < r' + w ∧ P r'

/-- A step by `s` rows doubles that reach. -/
theorem within_up (s u : ℕ) (hsu : s + u = 64) (hc : Shape.Concatenates [(⟨2, ![s, 256]⟩ : Shape), ⟨2, ![u, 256]⟩] S64x256 0)
    (hs : S64x256.Slices ![0, 0] (⟨2, ![u, 256]⟩ : Shape)) (v : IVec S64x256 32) {b : ℤ} (hb : 0 ≤ b) (c : Fin 256) (P : ℕ → Prop)
    (h : Within b v c s P) : Within b (up ⟨2, ![s, 256]⟩ ⟨2, ![u, 256]⟩ hc hs v) c (2 * s) P := fun r => by
  rw [above_up s u hsu hc hs v hb r c, h r]
  constructor
  · rintro (⟨r', h1, h2, h3⟩ | ⟨r₁, h1, h2⟩)
    · exact ⟨r', h1, by omega, h3⟩
    · obtain ⟨r', h3, h4, h5⟩ := (h r₁).mp h2
      exact ⟨r', by omega, by omega, h5⟩
  · rintro ⟨r', h1, h2, h3⟩
    by_cases hr : r.val < r' + s
    · exact Or.inl ⟨r', h1, hr, h3⟩
    · have := r.isLt
      exact Or.inr ⟨⟨r.val - s, by omega⟩, by show r.val - s + s = r.val; omega,
        (h _).mpr ⟨r', by show r' ≤ r.val - s; omega, by show r.val - s < r' + s; omega, h3⟩⟩

/-- The six steps. -/
def scanned (v : IVec S64x256 32) : IVec S64x256 32 :=
  up S32x256 S32x256 concatenates_S32x256_S32x256_S64x256_d0 slices_S64x256_o0_0_S32x256 <|
  up S16x256 S48x256 concatenates_S16x256_S48x256_S64x256_d0 slices_S64x256_o0_0_S48x256 <|
  up S8x256 S56x256 concatenates_S8x256_S56x256_S64x256_d0 slices_S64x256_o0_0_S56x256 <|
  up S4x256 S60x256 concatenates_S4x256_S60x256_S64x256_d0 slices_S64x256_o0_0_S60x256 <|
  up S2x256 S62x256 concatenates_S2x256_S62x256_S64x256_d0 slices_S64x256_o0_0_S62x256 <|
  up S1x256 S63x256 concatenates_S1x256_S63x256_S64x256_d0 slices_S64x256_o0_0_S63x256 v

/-- After the six steps a row is above a bound when some row at or above it was. -/
theorem above_scanned (v : IVec S64x256 32) {b : ℤ} (hb : 0 ≤ b) (c : Fin 256) (P : ℕ → Prop)
    (h : ∀ r : Fin 64, Above b (v (ix2 r c)) ↔ P r.val) (r : Fin 64) :
    Above b (scanned v (ix2 r c)) ↔ ∃ r' ≤ r.val, P r' := by
  have h0 : Within b v c 1 P := fun r => (h r).trans ⟨fun hp => ⟨r.val, le_rfl, by omega, hp⟩, by
    rintro ⟨r', h1, h2, h3⟩
    have : r' = r.val := by omega
    rwa [this] at h3⟩
  have h6 := within_up 32 32 rfl concatenates_S32x256_S32x256_S64x256_d0 slices_S64x256_o0_0_S32x256 _ hb c P <|
    within_up 16 48 rfl concatenates_S16x256_S48x256_S64x256_d0 slices_S64x256_o0_0_S48x256 _ hb c P <|
    within_up 8 56 rfl concatenates_S8x256_S56x256_S64x256_d0 slices_S64x256_o0_0_S56x256 _ hb c P <|
    within_up 4 60 rfl concatenates_S4x256_S60x256_S64x256_d0 slices_S64x256_o0_0_S60x256 _ hb c P <|
    within_up 2 62 rfl concatenates_S2x256_S62x256_S64x256_d0 slices_S64x256_o0_0_S62x256 _ hb c P <|
    within_up 1 63 rfl concatenates_S1x256_S63x256_S64x256_d0 slices_S64x256_o0_0_S63x256 v hb c P h0
  refine (h6 r).trans ⟨?_, ?_⟩
  · rintro ⟨r', h1, -, h3⟩; exact ⟨r', h1, h3⟩
  · rintro ⟨r', h1, h3⟩; exact ⟨r', h1, by have := r.isLt; omega, h3⟩

/-- The maximum of a strip with one row. -/
def join (v : IVec S64x256 32) (run : IVec S1x256 32) : IVec S64x256 32 := maxsi v (broadcastTo S64x256 run broadcasts_S1x256_S64x256)

/-- The last row of a strip. -/
def lastRow (v : IVec S64x256 32) : IVec S1x256 32 :=
  shapeCast S1x256 (extractStridedSlice S1x256 ![63, 0] v slices_S64x256_o63_0_S1x256) shapeCasts_S1x256_S1x256

theorem above_join (v : IVec S64x256 32) (run : IVec S1x256 32) (b : ℤ) (r : Fin 64) (c : Fin 256) :
    Above b (join v run (ix2 r c)) ↔ Above b (v (ix2 r c)) ∨ Above b (run (ix2 (0 : Fin 1) c)) := by
  refine (above_max b _ _).trans (or_congr Iff.rfl ?_)
  rw [show broadcastTo S64x256 run broadcasts_S1x256_S64x256 (ix2 r c) = run (ix2 (0 : Fin 1) c) from by pointwise]

theorem lastRow_at (v : IVec S64x256 32) (c : Fin 256) : lastRow v (ix2 (0 : Fin 1) c) = v (ix2 (63 : Fin 64) c) := by
  unfold lastRow
  pointwise

/-- One strip after another: a row is above a bound when `P` holds of it or of one before it, in this strip or an earlier one. -/
theorem above_next (v M : IVec S64x256 32) {b : ℤ} (hb : 0 ≤ b) (c : Fin 256) (P : ℕ → Prop) (o : ℕ)
    (h : ∀ r : Fin 64, Above b (v (ix2 r c)) ↔ P (o + 64 + r.val))
    (hM : ∀ r : Fin 64, Above b (M (ix2 r c)) ↔ ∃ j ≤ o + r.val, P j) (r : Fin 64) :
    Above b (join (scanned v) (lastRow M) (ix2 r c)) ↔ ∃ j ≤ o + 64 + r.val, P j := by
  rw [above_join, lastRow_at, hM, above_scanned v hb c (fun r => P (o + 64 + r)) h r]
  constructor
  · rintro (⟨r', h1, h2⟩ | ⟨j, h1, h2⟩)
    · exact ⟨_, by omega, h2⟩
    · exact ⟨j, by have : ((63 : Fin 64)).val = 63 := rfl; omega, h2⟩
  · rintro ⟨j, h1, h2⟩
    by_cases hj : j ≤ o + 63
    · exact Or.inr ⟨j, hj, h2⟩
    · exact Or.inl ⟨j - (o + 64), by omega, by rwa [show o + 64 + (j - (o + 64)) = j by omega]⟩

/-- The first strip, joined to a row of least words. -/
theorem above_begin (v : IVec S64x256 32) {b : ℤ} (hb : 0 ≤ b) (c : Fin 256) (P : ℕ → Prop)
    (h : ∀ r : Fin 64, Above b (v (ix2 r c)) ↔ P (0 + r.val)) (r : Fin 64) :
    Above b (join (scanned v) (shapeCast S1x256 k0_pay13 shapeCasts_S1x256_S1x256) (ix2 r c)) ↔ ∃ j ≤ 0 + r.val, P j := by
  rw [above_join, above_scanned v hb c (fun r => P (0 + r)) h r]
  refine (or_iff_left (not_above_least hb)).trans ⟨?_, ?_⟩
  · rintro ⟨r', h1, h2⟩; exact ⟨_, by omega, h2⟩
  · rintro ⟨j, h1, h2⟩; exact ⟨j, by omega, by rwa [Nat.zero_add]⟩

/-! ### The printed strips -/

section Strips

variable {F : FTy → Type} [FloatOps F]

/-- The time steps of the strip that starts at step `s`. -/
def times (s : BitVec 32) : IVec S64x256 32 := addi (iota .tc S64x256 32 [0] iota_S64x256_d0_w32) (broadcast S64x256 s)

/-- The last steps of the strip's samples. -/
def ends (s : BitVec 32) (k : IVec S64x256 32) : IVec S64x256 32 := subi (addi (times s) k) (broadcast S64x256 1#32)

/-- What a strip stores: one where the running maximum is after the step. -/
def after (s : BitVec 32) (M : IVec S64x256 32) : IVec S64x256 32 := extui 32 (cmpi .sgt M (times s)) natLt_1_32

variable (i : grid0.Coords) (T : S40x2.Idx → BitVec 32) (X : Vec F S256 .f32)

/-- The running maxima of the four strips. -/
def run0 : IVec S64x256 32 := join (scanned (ends 0#32 (cnt0 i T X))) (shapeCast S1x256 k0_pay13 shapeCasts_S1x256_S1x256)
def run1 : IVec S64x256 32 := join (scanned (ends 64#32 (cnt1 i T X))) (lastRow (run0 i T X))
def run2 : IVec S64x256 32 := join (scanned (ends 128#32 (cnt2 i T X))) (lastRow (run1 i T X))
def run3 : IVec S64x256 32 := join (scanned (ends 192#32 (cnt3 i T X))) (lastRow (run2 i T X))

theorem row0_eq : row0 i T X = after 0#32 (run0 i T X) := rfl
theorem row1_eq : row1 i T X = after 64#32 (run1 i T X) := rfl
theorem row2_eq : row2 i T X = after 128#32 (run2 i T X) := rfl
theorem row3_eq : row3 i T X = after 192#32 (run3 i T X) := rfl

end Strips

theorem times_at (s : ℕ) (r : Fin 64) (c : Fin 256) : times (BitVec.ofNat 32 s) (ix2 r c) = BitVec.ofNat 32 (s + r.val) := by
  have e : iota .tc S64x256 32 [0] iota_S64x256_d0_w32 (ix2 r c) = BitVec.ofNat 32 r.val := by pointwise
  show iota .tc S64x256 32 [0] iota_S64x256_d0_w32 (ix2 r c) + BitVec.ofNat 32 s = _
  rw [e, Nat.add_comm, BitVec.ofNat_add]

/-- A strip's value at a row that the running maximum is right about. -/
theorem after_at (s : ℕ) (M : IVec S64x256 32) (K : ℕ → BitVec 32) (r : Fin 64) (c : Fin 256) (hs : s + r.val < 256)
    (h : Above ((s + r.val : ℕ) : ℤ) (M (ix2 r c)) ↔ Model.Spike K (s + r.val)) :
    IntOp.cmpi .ne (after (BitVec.ofNat 32 s) M (ix2 r c)) 0#32 = 1#1 ↔ Model.Spike K (s + r.val) := by
  rw [← h, ← sgt_iff (M (ix2 r c)) (j := s + r.val) (by omega), ← times_at s r c]
  show IntOp.cmpi .ne ((IntOp.cmpi .sgt (M (ix2 r c)) (times (BitVec.ofNat 32 s) (ix2 r c))).setWidth 32) 0#32 = 1#1 ↔ _
  generalize IntOp.cmpi .sgt (M (ix2 r c)) (times (BitVec.ofNat 32 s) (ix2 r c)) = w
  revert w; decide

/-- A sample's last step is above a bound when its number is. -/
theorem ends_at (s : ℕ) (k : IVec S64x256 32) (K : ℕ → BitVec 32) (r : Fin 64) (c : Fin 256) (hs : s + r.val < 256)
    (hk : k (ix2 r c) = K (s + r.val)) (hK : (K (s + r.val)).toNat ≤ 1000) (b : ℤ) :
    Above b (ends (BitVec.ofNat 32 s) k (ix2 r c)) ↔ b < (s + r.val : ℕ) + ((K (s + r.val)).toNat : ℤ) - 1 := by
  show b < (times (BitVec.ofNat 32 s) (ix2 r c) + k (ix2 r c) - 1#32).toInt ↔ _
  rw [times_at, hk, Model.ends_toInt (hK.trans (by norm_num)) hs]

end Cert.Proof.KI
-- ==== Proof.KI.Draw.lean ====
/-
  The kernel's draw at one lane: the mantissa bits of a trip are the generator's, lane by lane.
-/
module

public import proofs.«01_k».proof.Proof.KI.Loop
public import proofs.«01_k».proof.Proof.Threefry

@[expose] public section

noncomputable section

namespace Cert.Proof.KI

open Idealize.ShloMosaic Cert.KernelIdeal Cert.KernelIdeal.Gen Cert.Proof.Threefry

variable {F : FTy → Type} [FloatOps F]

/-- The first group of rounds. -/
theorem draw1 (cnt : IVec S64x256 32) (k1 k2 : BitVec 32) (x : S64x256.Idx) :
    (k0_pay42 (F := F) cnt k1 k2 x, k0_pay43 (F := F) cnt k1 k2 x + 1#32) = group1 xrL k1 k2 (0#32 + k1, cnt x + k2) := rfl

/-- The second group and the first round of the third. -/
theorem draw2 (k1 k2 : BitVec 32) (a b : IVec S64x256 32) (x : S64x256.Idx) :
    (k0_pay53 (F := F) k1 (third k1 k2) a b 1#32 x, k0_pay54 (F := F) k1 (third k1 k2) a b 1#32 x)
      = mix xrL 13 (group2 xrL k1 k2 (a x, b x + 1#32)) := rfl

/-- The rest of the third group and three rounds of the fourth. -/
theorem draw3 (k1 k2 : BitVec 32) (a b : IVec S64x256 32) (d : IVec S64x256 32) (x : S64x256.Idx) :
    (k0_pay67 (F := F) k1 k2 a b d k0_pay57 x, k0_pay68 (F := F) k1 k2 a b d k0_pay57 x)
      = mix xrL 16 (mix xrL 29 (mix xrL 17 (inject k1 k2 3#32 (mix xrL 6 (mix xrL 26 (b x, (d x ||| a x >>> 17) ^^^ b x)))))) := rfl

/-- The rest of the generator, and the mantissa bits. -/
theorem draw4 (k1 k2 : BitVec 32) (a b : IVec S64x256 32) (d : IVec S64x256 32) (x : S64x256.Idx) :
    k0_pay71 (F := F) k1 k2 (third k1 k2) a b d 8#32 x
      = ((group5 xrL k1 k2 (inject k2 (third k1 k2) 4#32 (b x, (d x ||| a x >>> 8) ^^^ b x))).1
        ^^^ (group5 xrL k1 k2 (inject k2 (third k1 k2) 4#32 (b x, (d x ||| a x >>> 8) ^^^ b x))).2) >>> 9 := rfl

theorem mantissa_apply (cnt : IVec S64x256 32) (k1 k2 : BitVec 32) (x : S64x256.Idx) :
    mantissa (F := F) cnt k1 k2 x = mant k1 k2 (cnt x) := by
  have e1 := draw1 (F := F) cnt k1 k2 x
  have e2 := draw2 (F := F) k1 k2 (k0_pay42 (F := F) cnt k1 k2) (k0_pay43 (F := F) cnt k1 k2) x
  rw [e1] at e2
  have e3 := draw3 (F := F) k1 k2 (k0_pay54 (F := F) k1 (third k1 k2) (k0_pay42 (F := F) cnt k1 k2) (k0_pay43 (F := F) cnt k1 k2) 1#32)
    (k0_pay55 (F := F) k1 (third k1 k2) (k0_pay42 (F := F) cnt k1 k2) (k0_pay43 (F := F) cnt k1 k2) 1#32)
    (k0_pay56 (F := F) k1 (third k1 k2) (k0_pay42 (F := F) cnt k1 k2) (k0_pay43 (F := F) cnt k1 k2) 1#32) x
  have f3 : ∀ p : BitVec 32 × BitVec 32, (k0_pay53 (F := F) k1 (third k1 k2) (k0_pay42 (F := F) cnt k1 k2) (k0_pay43 (F := F) cnt k1 k2) 1#32 x,
      k0_pay54 (F := F) k1 (third k1 k2) (k0_pay42 (F := F) cnt k1 k2) (k0_pay43 (F := F) cnt k1 k2) 1#32 x) = p →
      k0_pay54 (F := F) k1 (third k1 k2) (k0_pay42 (F := F) cnt k1 k2) (k0_pay43 (F := F) cnt k1 k2) 1#32 x = p.2
      ∧ k0_pay55 (F := F) k1 (third k1 k2) (k0_pay42 (F := F) cnt k1 k2) (k0_pay43 (F := F) cnt k1 k2) 1#32 x = p.1 + p.2
      ∧ k0_pay56 (F := F) k1 (third k1 k2) (k0_pay42 (F := F) cnt k1 k2) (k0_pay43 (F := F) cnt k1 k2) 1#32 x = p.2 <<< 15 := by
    rintro _ rfl; exact ⟨rfl, rfl, rfl⟩
  obtain ⟨g1, g2, g3⟩ := f3 _ e2
  rw [g1, g2, g3] at e3
  unfold mantissa
  rw [show Scalar.xori (Scalar.xori k1 k2) 466688986#32 = third k1 k2 from rfl, draw4]
  generalize k0_pay54 (F := F) k1 (third k1 k2) (k0_pay42 (F := F) cnt k1 k2) (k0_pay43 (F := F) cnt k1 k2) 1#32 = A at *
  generalize k0_pay55 (F := F) k1 (third k1 k2) (k0_pay42 (F := F) cnt k1 k2) (k0_pay43 (F := F) cnt k1 k2) 1#32 = B at *
  generalize k0_pay56 (F := F) k1 (third k1 k2) (k0_pay42 (F := F) cnt k1 k2) (k0_pay43 (F := F) cnt k1 k2) 1#32 = D at *
  have f4 : ∀ p : BitVec 32 × BitVec 32, (k0_pay67 (F := F) k1 k2 A B D k0_pay57 x, k0_pay68 (F := F) k1 k2 A B D k0_pay57 x) = p →
      k0_pay68 (F := F) k1 k2 A B D k0_pay57 x = p.2 ∧ k0_pay69 (F := F) k1 k2 A B D k0_pay57 x = p.1 + p.2
      ∧ k0_pay70 (F := F) k1 k2 A B D k0_pay57 x = p.2 <<< 24 := by
    rintro _ rfl; exact ⟨rfl, rfl, rfl⟩
  obtain ⟨h1, h2, h3⟩ := f4 _ e3
  rw [h1, h2, h3]
  unfold mant threefry
  rw [show ((0#32, cnt x) : BitVec 32 × BitVec 32).1 + k1 = 0#32 + k1 from rfl, show ((0#32, cnt x) : BitVec 32 × BitVec 32).2 + k2 = cnt x + k2 from rfl]
  generalize group2 xrL k1 k2 (group1 xrL k1 k2 (0#32 + k1, cnt x + k2)) = p
  rfl

end Cert.Proof.KI

end
-- ==== Proof.KI.Count.lean ====
/-
  The kernel's loop at one lane: whenever it leaves, the lane's count is the one of all forty trips. A lane stops counting once
  its log-product is not above its rate, and the loop leaves early only when no lane is above.
-/
module

public import proofs.«01_k».proof.Proof.KI.Draw
public import proofs.«01_k».proof.Proof.Model

@[expose] public section

noncomputable section

namespace Cert.Proof.KI

open Idealize.ShloMosaic Cert.KernelIdeal Cert.KernelIdeal.Gen Cert.Proof.Threefry

/-- An element that goes into a fold of maxima is at most what comes out. -/
theorem le_foldl_maximumf {ι : Type} (g : ι → EReal) (l : List ι) (v : EReal) :
    v ≤ l.foldl (fun r i => FloatOps.maximumf (F := Ideal) (φ := .f32) r (g i)) v
    ∧ ∀ i ∈ l, g i ≤ l.foldl (fun r i => FloatOps.maximumf (F := Ideal) (φ := .f32) r (g i)) v := by
  induction l generalizing v with
  | nil => exact ⟨le_rfl, fun i h => absurd h (by simp)⟩
  | cons a l ih =>
    have hm : FloatOps.maximumf (F := Ideal) (φ := .f32) v (g a) = max v (g a) := rfl
    obtain ⟨h1, h2⟩ := ih (FloatOps.maximumf (F := Ideal) (φ := .f32) v (g a))
    refine ⟨le_trans (le_trans (le_max_left v (g a)) hm.ge) h1, fun i hi => ?_⟩
    rcases List.mem_cons.mp hi with rfl | hi
    · exact le_trans (le_trans (le_max_right v (g i)) hm.ge) h1
    · exact h2 i hi

/-- A maximum over all the elements is at least each of them. -/
theorem le_all_max (v : FVec Ideal S1x64x256 .f32) (z : S1x64x256.Idx) (o : S1.Idx) :
    (v z : EReal) ≤ multiReduction .maximumf [1, 2] S1 v 0xFF800000#32 reduces_S1x64x256_S1 (.inl rfl) rfl o := by
  refine le_of_le_of_eq ?_ (congrFun (multiReduction_maximumf_eq_reduceFold v 0xFF800000#32 reduces_S1x64x256_S1 (.inl rfl) rfl) o).symm
  rw [reduceFold_eq_foldl]
  refine (le_foldl_maximumf v _ _).2 z (List.mem_filter.mpr ⟨List.mem_map.mpr ⟨S1x64x256.rowMajor z, List.mem_finRange _, by simp⟩, ?_⟩)
  have : ∀ a b : S1.Idx, a = b := fun a b => by
    funext d; apply Fin.ext
    have h1 : (a d).val < 1 := by have := (a d).isLt; revert this; fin_cases d; exact id
    have h2 : (b d).val < 1 := by have := (b d).isLt; revert this; fin_cases d; exact id
    omega
  exact decide_eq_true (this _ _)

/-- One where a lane's log-product is above its rate, zero elsewhere. -/
def marks (lamN l : FVec Ideal S64x256 .f32) : FVec Ideal S64x256 .f32 :=
  select (cmpf .ogt l lamN) (broadcast S64x256 (Scalar.ofBits (F := Ideal) .f32 0x3F800000#32))
    (broadcast S64x256 (Scalar.ofBits (F := Ideal) .f32 0x00000000#32))

theorem marks_one (lamN l : FVec Ideal S64x256 .f32) (x : S64x256.Idx) (h : (lamN x : EReal) < l x) : @Eq EReal (marks lamN l x) 1 := by
  have e : cmpf (F := Ideal) .ogt l lamN x = 1#1 := by
    show BitVec.ofBool (decide ((lamN x : EReal) < l x)) = 1#1
    rw [decide_eq_true h]; rfl
  show Scalar.select (cmpf (F := Ideal) .ogt l lamN x) (Ideal.ofBits .f32 0x3F800000#32) (Ideal.ofBits .f32 0x00000000#32) = 1
  rw [e, ← Ideal.ofBits_one_f32]; rfl

/-- The loop's flag is the maximum of the marks. -/
theorem flag_eq (lamN l : FVec Ideal S64x256 .f32) : ∃ o : S1.Idx, k0_pay1 (F := Ideal) lamN l
    = multiReduction .maximumf [1, 2] S1 (shapeCast S1x64x256 (marks lamN l) shapeCasts_S64x256_S1x64x256) 0xFF800000#32 reduces_S1x64x256_S1 (.inl rfl) rfl o :=
  ⟨Shape.reshapeEquiv shapeCasts_S1_S1x1x1 fun a => ⟨(![0, 0, 0] : Fin 3 → ℕ) a, inpos_S1x1x1_p0_0_0 a⟩, rfl⟩

/-- Casting loses no element. -/
theorem cast_reach {s t : Shape} {α : Type} (v : s.Idx → α) (h : s.ShapeCasts t) (x : s.Idx) : ∃ z, shapeCast t v h z = v x := by
  refine ⟨(Shape.reshapeEquiv h).symm x, ?_⟩
  unfold shapeCast
  rw [Equiv.apply_symm_apply]

/-- When the loop's flag is not above zero, no lane is above its rate. -/
theorem flag_none (lamN l : FVec Ideal S64x256 .f32) (h : ¬ (0 : EReal) < k0_pay1 (F := Ideal) lamN l) (x : S64x256.Idx) :
    ¬ (lamN x : EReal) < l x := fun hx => by
  obtain ⟨o, ho⟩ := flag_eq lamN l
  obtain ⟨z, hz⟩ := cast_reach (marks lamN l) shapeCasts_S64x256_S1x64x256 x
  have h1 := le_all_max (shapeCast S1x64x256 (marks lamN l) shapeCasts_S64x256_S1x64x256) z o
  rw [hz, marks_one lamN l x hx, ← ho] at h1
  exact h (lt_of_lt_of_le (by norm_num : (0 : EReal) < 1) h1)

/-- What a trip does to a lane's count. -/
theorem count_trip (lamN l : FVec Ideal S64x256 .f32) (k : IVec S64x256 32) (x : S64x256.Idx) :
    k0_pay33 (F := Ideal) lamN k l x = if (lamN x : EReal) < l x then k x + 1#32 else k x := by
  show k x + (BitVec.ofBool (decide ((lamN x : EReal) < l x))).setWidth 32 = _
  split <;> rename_i h <;> simp [h]

/-- What a trip does to a lane's log-product. -/
theorem logp_trip (T : S40x2.Idx → BitVec 32) (cnt : IVec S64x256 32) (n : BitVec 32) (l : FVec Ideal S64x256 .f32) (x : S64x256.Idx) :
    @Eq EReal (nextLog (F := Ideal) T cnt n l x) ((l x : EReal) + Ideal.log (Model.unit (mant (keyA T n) (keyB T n) (cnt x)))) := by
  rw [← mantissa_apply (F := Ideal)]
  unfold Model.unit
  rw [← Ideal.ofBits_one_f32]
  rfl

/-- A number above zero passes the loop's comparison. -/
theorem above_zero (v : Ideal .f32) (h : (0 : EReal) < v) : Scalar.cmpf .ogt v (Scalar.ofBits (F := Ideal) .f32 0x00000000#32) = 1#1 := by
  have e : @Eq EReal (Scalar.ofBits (F := Ideal) .f32 0x00000000#32) 0 := Ideal.ofBits_zero_f32
  rw [← e] at h
  show BitVec.ofBool (decide ((Scalar.ofBits (F := Ideal) .f32 0x00000000#32 : EReal) < v)) = 1#1
  rw [decide_eq_true h]; rfl

/-- The lane's count when the loop leaves. -/
theorem loop_count (T : S40x2.Idx → BitVec 32) (keys : ℕ → BitVec 32 × BitVec 32) (lamN : FVec Ideal S64x256 .f32) (cnt : IVec S64x256 32)
    (hT : ∀ n < 40, (keyA T (BitVec.ofNat 32 n), keyB T (BitVec.ofNat 32 n)) = keys n) (x : S64x256.Idx) :
    ∀ (f n : ℕ) (k : IVec S64x256 32) (l : FVec Ideal S64x256 .f32), f + n = 40 →
      k x = Model.count keys (cnt x) (lamN x) n → @Eq EReal (l x) (Model.logp keys (cnt x) n) →
      (loop T lamN cnt f (BitVec.ofNat 32 n) k l).2.1 x = Model.count keys (cnt x) (lamN x) 40
  | 0, n, k, l, hn, hk, hl => by
    obtain rfl : n = 40 := by omega
    exact hk
  | f + 1, n, k, l, hn, hk, hl => by
    unfold loop
    split
    · have hs : Scalar.addi (BitVec.ofNat 32 n) 1#32 = BitVec.ofNat 32 (n + 1) := (BitVec.ofNat_add n 1).symm
      rw [hs]
      refine loop_count T keys lamN cnt hT x f (n + 1) _ _ (by omega) ?_ ?_
      · rw [count_trip, hk, hl]; rfl
      · rw [logp_trip, hl]
        have := hT n (by omega)
        rw [Model.logp, ← this]
    · rename_i h
      have h0 : ¬ (0 : EReal) < k0_pay1 (F := Ideal) lamN l := fun h0 => h (by
        have e1 : Scalar.cmpi .slt (BitVec.ofNat 32 n) 40#32 = 1#1 := by
          have : n < 40 := by omega
          interval_cases n <;> rfl
        have e2 : Scalar.cmpf .ogt (k0_pay1 (F := Ideal) lamN l) (Scalar.ofBits (F := Ideal) .f32 0x00000000#32) = 1#1 := by
          exact above_zero _ h0
        unfold goes
        rw [e1, e2]; rfl)
      have h1 := flag_none lamN l h0 x
      rw [hl] at h1
      show k x = _
      rw [hk]
      exact (Model.count_stop keys (cnt x) (lamN x) h1 (by omega)).symm

/-- A strip's counts, lane by lane, from zero counts and zero log-products. -/
theorem strip_count (T : S40x2.Idx → BitVec 32) (keys : ℕ → BitVec 32 × BitVec 32) (lamN : FVec Ideal S64x256 .f32) (cnt : IVec S64x256 32)
    (hT : ∀ n < 40, (keyA T (BitVec.ofNat 32 n), keyB T (BitVec.ofNat 32 n)) = keys n) (k : IVec S64x256 32) (l : FVec Ideal S64x256 .f32)
    (x : S64x256.Idx) (hk : k x = 0#32) (hl : @Eq EReal (l x) 0) :
    (strip T lamN cnt k l).2.1 x = Model.count keys (cnt x) (lamN x) 40 :=
  loop_count T keys lamN cnt hT x 40 0 k l rfl hk hl

end Cert.Proof.KI
-- ==== Proof.KI.Table.lean ====
/-
  The kernel's constant table of subkeys: row `n` is the `n`-th subkey of the chain that starts at the folded key.
-/
module

public import proofs.«01_k».proof.Proof.KI.Draw
public import proofs.«01_k».proof.Proof.Model
public import proofs.«01_k».proof.Proof.Gen.KernelIdeal.Launch

@[expose] public section

noncomputable section

namespace Cert.Proof.KI

open Idealize.ShloMosaic Cert.KernelIdeal Cert.KernelIdeal.Gen Cert.Proof.Threefry

/-- The table the host hands the kernel. -/
def table : S40x2.Idx → BitVec 32 := fun i => lit0 (S40x2.rowMajor i)

/-- Row `n` of the table is the `n`-th subkey, by running the generator. -/
theorem table_rows : ∀ n : Fin 40, (lit0 ⟨2 * n.val, by omega⟩, lit0 ⟨2 * n.val + 1, by omega⟩) = Model.subkey n.val := by
  decide +kernel

/-- An entry of the table, by its row and column. -/
theorem table_at (z : S40x2.Idx) (n b : ℕ) (hn : n < 40) (hb : b < 2) (h0 : (z 0).val = n) (h1 : (z 1).val = b) :
    table z = lit0 ⟨2 * n + b, by omega⟩ := by
  have h : S40x2.rowMajor z = (⟨2 * n + b, by omega⟩ : Fin 80) :=
    Fin.ext ((Shape.rowMajor_val_two (d := ![40, 2]) z).trans (by rw [h0, h1]; show n * 2 + b = 2 * n + b; omega))
  unfold table
  rw [h]

/-- The two words a trip reads are the subkey of its number. -/
theorem keys_table (n : ℕ) (hn : n < 40) : (keyA table (BitVec.ofNat 32 n), keyB table (BitVec.ofNat 32 n)) = Model.subkey n := by
  have hc : k0_chk1 (BitVec.ofNat 32 n) := by
    have := (by decide +kernel : ∀ n : Fin 40, k0_chk1 (BitVec.ofNat 32 n.val)) ⟨n, hn⟩
    exact this
  have ho : (BitVec.ofNat 32 n).toNat = n := by rw [BitVec.toNat_ofNat]; omega
  have hz : ∀ (z : S1x1.Idx) (a : Fin 2), (z a).val = 0 := fun z a => by
    have h := (z a).isLt
    have : S1x1.size a = 1 := by fin_cases a <;> rfl
    omega
  rw [← table_rows ⟨n, hn⟩]
  unfold keyA keyB
  rw [dif_pos hc, dif_pos hc]
  refine Prod.ext (table_at _ n 0 hn (by omega) ?_ ?_) (table_at _ n 1 hn (by omega) ?_ ?_)
  · show (BitVec.ofNat 32 n).toNat + 1 * _ = n
    rw [hz, ho]; rfl
  · show 0 + 1 * _ = 0
    rw [hz]
  · show (BitVec.ofNat 32 n).toNat + 1 * _ = n
    rw [hz, ho]; rfl
  · show 1 + 1 * _ = 1
    rw [hz]

end Cert.Proof.KI
-- ==== Proof.KI.Block.lean ====
/-
  The kernel's output block over the extended reals: a place is set when the sampler's counts for its element have an event
  after its step.
-/
module

public import proofs.«01_k».proof.Proof.KI.Scan
public import proofs.«01_k».proof.Proof.KI.Count
public import proofs.«01_k».proof.Proof.KI.Table

@[expose] public section

noncomputable section

namespace Cert.Proof.KI

open Idealize.ShloMosaic Cert.KernelIdeal Cert.KernelIdeal.Gen Cert.Proof.Above Cert.Proof.Threefry

/-- The counters of a block: element times 256 plus step. -/
theorem counter_at (i : grid0.Coords) (r : Fin 64) (c : Fin 256) :
    k0_pay9 i (ix2 r c) = BitVec.ofNat 32 (((i 0).val * 256 + c.val) * 256 + r.val) := by
  have e0 : iota .tc S64x256 32 [0] iota_S64x256_d0_w32 (ix2 r c) = BitVec.ofNat 32 r.val := by pointwise
  have e1 : iota .tc S64x256 32 [1] iota_S64x256_d1_w32 (ix2 r c) = BitVec.ofNat 32 c.val := by pointwise
  show (BitVec.ofNat 32 (i 0).val * 256#32 + iota .tc S64x256 32 [1] iota_S64x256_d1_w32 (ix2 r c)) * 256#32
    + iota .tc S64x256 32 [0] iota_S64x256_d0_w32 (ix2 r c) = _
  rw [e0, e1, BitVec.ofNat_add, BitVec.ofNat_mul, BitVec.ofNat_add, BitVec.ofNat_mul]

/-- Likewise in the strip that starts at step `s`. -/
theorem counter_strip (i : grid0.Coords) (s : ℕ) (r : Fin 64) (c : Fin 256) :
    addi (k0_pay9 i) (broadcast S64x256 (BitVec.ofNat 32 s)) (ix2 r c)
      = BitVec.ofNat 32 (((i 0).val * 256 + c.val) * 256 + (s + r.val)) := by
  show k0_pay9 i (ix2 r c) + BitVec.ofNat 32 s = _
  rw [counter_at, ← BitVec.ofNat_add, Nat.add_assoc, Nat.add_comm r.val s]

/-- The counts start at zero, -/
theorem start_count (i : grid0.Coords) (r : Fin 64) (c : Fin 256) : k0_pay10 i (ix2 r c) = 0#32 := by
  have hi : (i 0).val < 64 := (i 0).isLt
  show IntOp.shrui .vector (k0_pay9 i (ix2 r c)) 31#32 = 0#32
  rw [counter_at, IntOp.shrui, if_pos (by decide)]
  apply BitVec.eq_of_toNat_eq
  rw [BitVec.ushiftRight_eq', BitVec.toNat_ushiftRight, BitVec.toNat_ofNat, Nat.shiftRight_eq_div_pow]
  show _ / 2 ^ 31 = 0
  omega

/-- the log-products too, -/
theorem start_logp (i : grid0.Coords) (r : Fin 64) (c : Fin 256) : @Eq EReal (k0_pay11 (F := Ideal) i (ix2 r c)) 0 := by
  show (((k0_pay10 i (ix2 r c)).toInt : ℝ) : EReal) = 0
  rw [start_count]
  simp

/-- and the bound is the rate's negative. -/
theorem bound_at (i : grid0.Coords) (X : Vec Ideal S256 .f32) (r : Fin 64) (c : Fin 256) :
    @Eq EReal (k0_pay12 (F := Ideal) i X (ix2 r c)) (-(X (ix1 c) : EReal)) := by
  have e : broadcastTo S64x256 (shapeCast S1x256 (shapeCast S1x256 X shapeCasts_S256_S1x256) shapeCasts_S1x256_S1x256) broadcasts_S1x256_S64x256
      (ix2 r c) = X (ix1 c) := by pointwise
  show (k0_pay11 (F := Ideal) i (ix2 r c) : EReal) - (broadcastTo S64x256 (shapeCast S1x256 (shapeCast S1x256 X shapeCasts_S256_S1x256)
    shapeCasts_S1x256_S1x256) broadcasts_S1x256_S64x256 (ix2 r c) : EReal) = _
  rw [start_logp, e, zero_sub]

/-- The number a lane's sampler ends with, by element and step. -/
def K (i : grid0.Coords) (X : Vec Ideal S256 .f32) (c : Fin 256) (j : ℕ) : BitVec 32 :=
  Model.count Model.subkey (BitVec.ofNat 32 (((i 0).val * 256 + c.val) * 256 + j)) (-(X (ix1 c) : EReal)) 40

theorem strip_at (i : grid0.Coords) (X : Vec Ideal S256 .f32) (s : ℕ) (r : Fin 64) (c : Fin 256) :
    (strip table (k0_pay12 i X) (addi (k0_pay9 i) (broadcast S64x256 (BitVec.ofNat 32 s))) (k0_pay10 i) (k0_pay11 (F := Ideal) i)).2.1 (ix2 r c)
      = K i X c (s + r.val) := by
  rw [strip_count table Model.subkey _ _ keys_table _ _ (ix2 r c) (start_count i r c) (start_logp i r c), counter_strip, bound_at]
  rfl

/-- A strip's last steps, against a bound. -/
theorem ends_above (i : grid0.Coords) (X : Vec Ideal S256 .f32) (s : ℕ) (hs : s ≤ 192) (k : IVec S64x256 32)
    (hk : k = (strip table (k0_pay12 i X) (addi (k0_pay9 i) (broadcast S64x256 (BitVec.ofNat 32 s))) (k0_pay10 i) (k0_pay11 (F := Ideal) i)).2.1)
    (b : ℤ) (r : Fin 64) (c : Fin 256) :
    Above b (ends (BitVec.ofNat 32 s) k (ix2 r c)) ↔ b < (s + r.val : ℕ) + ((K i X c (s + r.val)).toNat : ℤ) - 1 :=
  ends_at s k (K i X c) r c (by omega) (by rw [hk, strip_at]) (le_trans (Model.count_le _ _ _ 40 (by omega)) (by omega)) b

/-- The running maxima of the four strips, against a bound. -/
theorem runs_above (i : grid0.Coords) (X : Vec Ideal S256 .f32) {b : ℤ} (hb : 0 ≤ b) (c : Fin 256) :
    (∀ r : Fin 64, Above b (run0 i table X (ix2 r c)) ↔ ∃ j ≤ 0 + r.val, b < (j : ℤ) + ((K i X c j).toNat : ℤ) - 1)
    ∧ (∀ r : Fin 64, Above b (run1 i table X (ix2 r c)) ↔ ∃ j ≤ 64 + r.val, b < (j : ℤ) + ((K i X c j).toNat : ℤ) - 1)
    ∧ (∀ r : Fin 64, Above b (run2 i table X (ix2 r c)) ↔ ∃ j ≤ 128 + r.val, b < (j : ℤ) + ((K i X c j).toNat : ℤ) - 1)
    ∧ ∀ r : Fin 64, Above b (run3 i table X (ix2 r c)) ↔ ∃ j ≤ 192 + r.val, b < (j : ℤ) + ((K i X c j).toNat : ℤ) - 1 := by
  have h0 := above_begin _ hb c (fun j => b < (j : ℤ) + ((K i X c j).toNat : ℤ) - 1)
    fun r => ends_above i X 0 (by omega) (cnt0 i table X) rfl b r c
  have h1 := above_next _ _ hb c (fun j => b < (j : ℤ) + ((K i X c j).toNat : ℤ) - 1) 0
    (fun r => ends_above i X 64 (by omega) (cnt1 i table X) rfl b r c) h0
  have h2 := above_next _ _ hb c (fun j => b < (j : ℤ) + ((K i X c j).toNat : ℤ) - 1) 64
    (fun r => ends_above i X 128 (by omega) (cnt2 i table X) rfl b r c) h1
  have h3 := above_next _ _ hb c (fun j => b < (j : ℤ) + ((K i X c j).toNat : ℤ) - 1) 128
    (fun r => ends_above i X 192 (by omega) (cnt3 i table X) rfl b r c) h2
  exact ⟨h0, h1, h2, h3⟩

/-- The output block at a place. -/
theorem block_iff (i : grid0.Coords) (X : Vec Ideal S256 .f32) (j : Fin 256) (c : Fin 256) :
    IntOp.cmpi .ne (outBlk (F := Ideal) i table X (ix2 j c)) 0#32 = 1#1 ↔ Model.Spike (K i X c) j.val := by
  obtain ⟨h0, h1, h2, h3⟩ := runs_above i X (b := (j.val : ℤ)) (by omega) c
  have hj := j.isLt
  have place : ∀ (s : ℕ) (M : IVec S64x256 32), s ≤ j.val → j.val < s + 64 → s % 64 = 0 →
      (∀ r : Fin 64, Above (j.val : ℤ) (M (ix2 r c)) ↔ ∃ j' ≤ s + r.val, (j.val : ℤ) < (j' : ℤ) + ((K i X c j').toNat : ℤ) - 1) →
      (IntOp.cmpi .ne (after (BitVec.ofNat 32 s) M (inStrip (ix2 j c))) 0#32 = 1#1 ↔ Model.Spike (K i X c) j.val) := fun s M hs hs' hm hM => by
    have e : inStrip (ix2 j c) = ix2 (⟨j.val - s, by omega⟩ : Fin 64) c := by
      funext a; apply Fin.ext; fin_cases a
      · show j.val % 64 = j.val - s; omega
      · rfl
    have hsum : s + (j.val - s) = j.val := by omega
    rw [e]
    have := after_at s M (K i X c) ⟨j.val - s, by omega⟩ c (by show s + (j.val - s) < 256; omega)
    simp only [hsum] at this
    refine this ((hM _).trans ?_)
    simp only [hsum]
    rfl
  show IntOp.cmpi .ne (if j.val < 64 then row0 i table X (inStrip (ix2 j c)) else if j.val < 128 then row1 i table X (inStrip (ix2 j c))
    else if j.val < 192 then row2 i table X (inStrip (ix2 j c)) else row3 i table X (inStrip (ix2 j c))) 0#32 = 1#1 ↔ _
  split
  · exact place 0 _ (by omega) (by omega) rfl h0
  split
  · exact place 64 _ (by omega) (by omega) rfl h1
  split
  · exact place 128 _ (by omega) (by omega) rfl h2
  · exact place 192 _ (by omega) (by omega) rfl h3

end Cert.Proof.KI
-- ==== Proof.KI.Run.lean ====
/-
  The kernel's launch: the body's triple on symbolic staging buffers, the pipeline's proof data (each window's block in,
  the output block out), and the whole program's run around the pipelined call.
-/
module

public import proofs.«01_k».proof.Proof.KI.Body

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open sWPT (consume produce)

variable {F : FTy → Type} [FloatOps F]

local notation "𝕄" => MT nD τ sig Unit (Elt F) ℕ (UR sig nD τ) ℕ

/-! ### The body -/

omit [FloatOps F] in
/-- Reading a whole vector of 256 through its whole rectangle reads it. -/
theorem read_row (arg1 : Memref sig .tc .vmem S256 .f32) (f : arg1.view.ty.Contents (Elt F)) :
    arg1.view.readAt (Elt F) (Rect.unit (s := S256) ![0] S256.size inb_S256_S256_0).toLoadRect f = arg1.view.read (Elt F) f := by
  funext x
  rw [View.readAt_apply]
  congr 1
  funext a
  apply Fin.ext
  match a with
  | 0 => show 0 + 1 * (x 0).val = (x 0).val; omega

/-- An unmasked store over a rectangle of a held buffer leaves it written there. -/
theorem wp_put (c : Dev nD) (m : Memref sig .tc .vmem S256x256 .i32) (r : Rect S256x256) (w : r.shape.Idx → Elt F .i32)
    (hx : (m.access r).Stores Finset.univ) (hm : (Finset.univ : Finset r.shape.Idx) = Finset.univ ∨ ∀ a, r.stride a = 1)
    (k : PUnit → Prog (TpuEff nD τ sig (Elt F) (Λ₀ F) .tc) PUnit) (Q : PUnit → sProp 𝕄) (f : m.view.ty.Contents (Elt F)) :
    (m.view.loc (c : Thread nD τ) ↦[m.view.set]{fullShare} f)
      ⊢ iprop(((m.view.loc (c : Thread nD τ) ↦[m.view.set]{fullShare} (m.access r).write (Elt F) f w Finset.univ) -∗
          wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) :=
  wp_store 𝒱₀ (c : Thread nD τ) none Set.univ (Q := Q) (w := w) (hx := hx) (hm := hm) (k := k) (Mk := Finset.univ) (f := f)
    (by rw [View.setOn_univ]; exact View.set_slice_subset _ _)

/-- The body on staging buffers that hold the block `X` of the rates, the subkey table `T` and anything: it leaves the
    first two as they were and the third holding `outBlk`. -/
theorem sound_prog (c : Dev nD) (i : grid0.Coords) (arg1 : Memref sig .tc .vmem S256 .f32) (arg2 : Memref sig .tc .smem S40x2 .i32)
    (h2 : arg2.IsWhole) (arg3 : Memref sig .tc .vmem S256x256 .i32) (X : Vec F S256 .f32) (T : S40x2.Idx → BitVec 32)
    (Y : S256x256.Idx → BitVec 32) (K : PUnit → sProp 𝕄) :
    iprop((owns (c : Thread nD τ) arg1 fullShare X ∗ owns (c : Thread nD τ) arg2 fullShare T ∗ owns (c : Thread nD τ) arg3 fullShare Y)
        ∗ (iprop(owns (c : Thread nD τ) arg1 fullShare X ∗ owns (c : Thread nD τ) arg2 fullShare T
              ∗ owns (c : Thread nD τ) arg3 fullShare (outBlk i T X)) -∗ K ⟨⟩))
      ⊢ wp frame (wpE (defs₀ (F := F)) 𝒱₀ (c : Thread nD τ) none) Set.univ (bodyProg i arg1 arg2 h2 arg3) K := by
  unfold owns bodyProg
  iintro ⟨⟨⟨%f1, %hf1, H1⟩, ⟨%f2, %hf2, H2⟩, ⟨%f3, %hf3, H3⟩⟩, Hk⟩
  iapply (wp_load 𝒱₀ (c : Thread nD τ) none Set.univ (m := arg1) (S := arg1.view.set) (View.setOn_subset_set _ _)) $$ H1; iintro H1
  rw [read_row, hf1]
  iapply (wp_call_spec 𝒱₀ (c : Thread nD τ) none Set.univ (ℓ := (1 : (Λ₀ F).Label)) _ 40 (fun u hu => nomatch hu) (call1 c arg2 h2 f2 i _ _ _ _))
  rw [spec_apply]; isplitl [H2]; · iexact H2
  iintro H2
  iapply (wp_load 𝒱₀ (c : Thread nD τ) none Set.univ (m := arg3) (S := arg3.view.set) (View.setOn_subset_set _ _)) $$ H3; iintro H3
  iapply (wp_put c arg3) $$ H3; iintro H3
  iapply (wp_call_spec 𝒱₀ (c : Thread nD τ) none Set.univ (ℓ := (2 : (Λ₀ F).Label)) _ 40 (fun u hu => nomatch hu) (call2 c arg2 h2 f2 i _ _ _ _))
  rw [spec_apply]; isplitl [H2]; · iexact H2
  iintro H2
  iapply (wp_load 𝒱₀ (c : Thread nD τ) none Set.univ (m := arg3) (S := arg3.view.set) (View.setOn_subset_set _ _)) $$ H3; iintro H3
  iapply (wp_put c arg3) $$ H3; iintro H3
  iapply (wp_call_spec 𝒱₀ (c : Thread nD τ) none Set.univ (ℓ := (3 : (Λ₀ F).Label)) _ 40 (fun u hu => nomatch hu) (call3 c arg2 h2 f2 i _ _ _ _))
  rw [spec_apply]; isplitl [H2]; · iexact H2
  iintro H2
  iapply (wp_load 𝒱₀ (c : Thread nD τ) none Set.univ (m := arg3) (S := arg3.view.set) (View.setOn_subset_set _ _)) $$ H3; iintro H3
  iapply (wp_put c arg3) $$ H3; iintro H3
  iapply (wp_call_spec 𝒱₀ (c : Thread nD τ) none Set.univ (ℓ := (4 : (Λ₀ F).Label)) _ 40 (fun u hu => nomatch hu) (call4 c arg2 h2 f2 i _ _ _ _))
  rw [spec_apply]; isplitl [H2]; · iexact H2
  iintro H2
  iapply (wp_load 𝒱₀ (c : Thread nD τ) none Set.univ (m := arg3) (S := arg3.view.set) (View.setOn_subset_set _ _)) $$ H3; iintro H3
  iapply (wp_put c arg3) $$ H3; iintro H3
  rw [wp_ret]; imodintro
  iapply Hk
  isplitl [H1]
  · iexists f1; isplitr; · ipureintro; exact hf1
    iexact H1
  isplitl [H2]
  · iexists f2; isplitr; · ipureintro; exact hf2
    iexact H2
  · iexists _; isplitr; swap; · iexact H3
    ipureintro
    rw [read_stores, hf2]
    rfl

/-! ### The pipeline's proof data -/

variable (m : (ℓ : Loc nD τ sig) → Buf (Elt F) ℓ) (ρ : Dev nD → PrngReg)

/-- The buffers when the pipelined call is entered: after the one host line before it, the table's constant. -/
abbrev V0 (c : Dev nD) : Valuation τ sig (Elt F) := StableHlo.after (List.flatten [hostOps0]) (fun b => m (c, b))

/-- The block of rates at a point. -/
def xblk (c : Dev nD) (t : Fin (cfg0 (F := F)).N) : Vec F S256 .f32 :=
  (((cfg0 (F := F)).win 0).blk t).view.read (Elt F) (V0 m c (Proc.devRef .tc (Pipeline.arrRef spec0 0)))

/-- The subkey table as a point sees it. -/
def tblk (c : Dev nD) (t : Fin (cfg0 (F := F)).N) : S40x2.Idx → BitVec 32 :=
  (((cfg0 (F := F)).win 1).blk t).view.read (Elt F) (V0 m c (Proc.devRef .tc (Pipeline.arrRef spec0 1)))

/-- The proof data: the rates' block and the table are left as they were, the output's block holds `outBlk`. -/
def dats (_ : Fin 1) (c : Dev nD) : Dat τ (Elt F) Unit ℕ (UR sig nD τ) ℕ (cfg0 (F := F)) c where
  A w := V0 m c (Proc.devRef .tc (Pipeline.arrRef spec0 w))
  after w t := match w with
    | 0 => xblk m c t
    | 1 => tblk m c t
    | 2 => outBlk (grid0.coords t) (tblk m c t) (xblk m c t)
    | ⟨_ + 3, h⟩ => absurd h (Nat.not_lt.2 (Nat.le_add_left _ _))
  Φ _ := Pipeline.ΦA spec0 c
  q _ := fullShare
  owed _ := 0

theorem before_0 (c : Dev nD) (t : Fin (cfg0 (F := F)).N) (d) : (dats m 0 c).before (0 : Fin 3) t d = xblk m c t :=
  ((dats m 0 c).before_in_eq_fetched (0 : Fin 3) rfl (fun _ => rfl) (fun _ _ _ => rfl) (fun _ => rfl) t d).trans rfl

theorem before_1 (c : Dev nD) (t : Fin (cfg0 (F := F)).N) (d) : (dats m 0 c).before (1 : Fin 3) t d = tblk m c t :=
  ((dats m 0 c).before_in_eq_fetched (1 : Fin 3) rfl (fun _ => rfl) (fun _ _ _ => rfl) (fun _ => rfl) t d).trans rfl

/-- The pipeline's call of the body at a point is the printed body there. -/
theorem defs₀_row (t : Fin (cfg0 (F := F)).N) :
    defs₀ .tc (cfg0 (F := F)).body ((cfg0 (F := F)).bodyArgs t ((cfg0 (F := F)).slots t)) = bodyAt0 t := by
  unfold defs₀; rw [Defs.onTc_tc]

/-- The body's triple at a point, whatever the buffers are said to hold as long as the two inputs hold `X` and `T`. -/
theorem sound_body (c : Dev nD) (i : grid0.Coords) (arg1 : Memref sig .tc .vmem S256 .f32) (arg2 : Memref sig .tc .smem S40x2 .i32)
    (h2 : arg2.IsWhole) (arg3 : Memref sig .tc .vmem S256x256 .i32) (X : Vec F S256 .f32) (T : S40x2.Idx → BitVec 32)
    {D0 D1 D2 : Type} (b0 : D0 → Vec F S256 .f32) (b1 : D1 → S40x2.Idx → BitVec 32) (b2 : D2 → S256x256.Idx → BitVec 32)
    (e0 : ∀ d, b0 d = X) (e1 : ∀ d, b1 d = T) (Φ O : sProp 𝕄) :
    iprop(Φ ∗ O ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) 𝒱₀ (c : Thread nD τ) none) Set.univ (bodyProg i arg1 arg2 h2 arg3) (fun _ =>
        iprop(Φ ∗ O ∗ owns (c : Thread nD τ) arg1 fullShare X ∗ owns (c : Thread nD τ) arg2 fullShare T
          ∗ owns (c : Thread nD τ) arg3 fullShare (outBlk i T X))) := by
  simp only [e0, e1]
  iintro ⟨HΦ, HO, ⟨%d0, H0⟩, ⟨%d1, H1⟩, ⟨%d2, H2⟩⟩
  iapply (sound_prog c i arg1 arg2 h2 arg3 X T (b2 d2) _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iexact H0
  isplitl [H1]; · iexact H1
  iexact H2

theorem body_obligation (c : Dev nD) : BodyObligation (dats (F := F) m 0 c) (defs₀ (F := F)) 𝒱₀ () Set.univ := fun t => by
  rw [bigSep_W0, bigSep_W0, defs₀_row]
  exact triple_restated
    (sound_body c (grid0.coords t) (st0_0 t) (st0_1 t) (hstage0_1 (((cfg0 (F := F)).slots t 1).cast nbuf0_1)) (st0_2 t) (xblk m c t) (tblk m c t)
      (fun d => (dats m 0 c).before (0 : Fin 3) t d) (fun d => (dats m 0 c).before (1 : Fin 3) t d)
      (fun d => (dats m 0 c).before (2 : Fin 3) t d) (before_0 m c t) (before_1 m c t) ((dats m 0 c).Φ t.castSucc)
      ((dats m 0 c).owesAt () t.castSucc))
    (congrArg (wp frame (wpE (defs₀ (F := F)) 𝒱₀ (c : Thread nD τ) none) Set.univ) (body_eq _ _ (hstage0_0 (((cfg0 (F := F)).slots t 0).cast nbuf0_0)) _ _ _ (hstage0_2 (((cfg0 (F := F)).slots t 2).cast nbuf0_2))).symm) .rfl fun _ => .rfl

/-! ### The launch -/

theorem hostOps0_fresh : (hostOps0 : List (HloOp τ sig (Elt F))).Forall fun op => op.fresh = ∅ := by
  simp only [List.Forall]; rfl

/-- @main up to the pipelined call, continued by the host lines after it. -/
theorem hmain : Pipeline.HMainK (Ix := Unit) (Name := ℕ) (U := UR sig nD τ) (Lvl := ℕ) cfgs 0 defs₀ 𝒱₀ m (main (F := F))
    (fun c b => V0 m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl | rfl | rfl <;> rfl

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl <;> intro w <;> fin_cases w <;>
    simp only [StableHlo.nullary_writes, StableHlo.unary_writes, StableHlo.binary_writes, Finset.mem_singleton] <;>
    exact StableHlo.devRef_ne_of_ne (by decide)

set_option backward.isDefEq.respectTransparency.types false in
/-- The whole program's run: every window's array ends at what the points wrote back, every other buffer at what the host
    lines after the call leave, every semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m) (hA := fun _ _ => rfl) (hΦ := fun _ _ => rfl)

/-! ### What the run leaves -/

/-- The output block array of the call, and the program's result read off it. -/
def spikes (c : Dev nD) : S256x16384.Idx → BitVec 32 := (dats m 0 c).arrAt (2 : Fin 3) (cfg0 (F := F)).N

/-- The rates are no host line's result. -/
theorem rates_kept (V : Valuation τ sig (Elt F)) : StableHlo.after (List.flatten [hostOps0]) V (Proc.devRef .tc main_arg0) = V (Proc.devRef .tc main_arg0) := by
  simp only [List.flatten_cons, List.flatten_nil, List.append_nil]
  after_results

/-- The call leaves the rates' array as it was. -/
theorem arr_rates (c : Dev nD) : (dats m 0 c).arrAt (0 : Fin 3) (cfg0 (F := F)).N = m ((c : Thread nD τ).loc main_arg0) :=
  ((dats m 0 c).arrAt_in (0 : Fin 3) rfl (cfg0 (F := F)).N).trans (rates_kept (fun b => m (c, b)))

/-- The result's buffer is no window's array. -/
theorem result_rest : main_v3 ∈ Pipeline.restRefs sig spec0 := Pipeline.mem_restRefs_of main_v3 (by decide) (by decide)

/-- The host lines after the call compare its output with zero. -/
theorem tail_result (c : Dev nD) :
    Pipeline.afterTail₀ cfgs (dats m) 0 (V0 m) [hostOps1] c main_v3 = (fun x => IntOp.cmpi .ne (spikes m c x) 0#32) := by
  have key : ∀ W : Valuation τ sig (Elt F), StableHlo.after (List.flatten [hostOps1]) W (Proc.devRef .tc main_v3)
      = fun x => IntOp.cmpi .ne ((W (Proc.devRef .tc main_v0) : S256x16384.Idx → BitVec 32) x) 0#32 := by
    intro W
    simp only [List.flatten_cons, List.flatten_nil, List.append_nil]
    after_results
    rfl
  refine (key _).trans ?_
  have e : Pipeline.withArrays (cfgs (F := F) 0).spec c (V0 m c) (fun w => (dats m 0 c).arrAt w (cfgs (F := F) 0).N) (Proc.devRef .tc main_v0)
      = spikes m c := Pipeline.withArrays_arr spec0 (launch0 (F := F)).win.arr_inj c _ (fun w => (dats m 0 c).arrAt w (cfgs (F := F) 0).N) (2 : Fin 3)
  rw [e]
  rfl

/-- The program runs, and ends with its argument unchanged, its result the call's output compared with zero, and every
    semaphore at zero. -/
theorem run_end :
    θ_run defs (onTc (τ := τ) (main (F := F))) ⟨m, fun _ => 0, ρ⟩
      (fun r => (∀ c : Dev nD, r.2.mem ((c : Thread nD τ).loc main_v3) = (fun x => IntOp.cmpi .ne (spikes m c x) 0#32)
          ∧ r.2.mem ((c : Thread nD τ).loc main_arg0) = m ((c : Thread nD τ).loc main_arg0)) ∧ r.2.sem = fun _ => 0) :=
  (θ_run _ _ _).mono (fun r h => ⟨fun c => ⟨((h.1 c).2 main_v3 result_rest).trans (tail_result m c),
    ((h.1 c).1 (0 : Fin 3)).trans (arr_rates m c)⟩, h.2⟩) (run_main m ρ)

end Cert.Proof.KI

end
-- ==== Proof.KI.Value.lean ====
/-
  The kernel's output array: the blocks of its 64 points side by side, each place set where its element spikes.
-/
module

public import proofs.«01_k».proof.Proof.KI.Block
public import proofs.«01_k».proof.Proof.KI.Run

@[expose] public section

noncomputable section

namespace Cert.Proof.KI

open Idealize.ShloMosaic Idealize.ShloMosaic.TcCoe Idealize.SL.Sem Cert.KernelIdeal Cert.KernelIdeal.Gen
open Idealize.ShloMosaic.Pipeline (Dat Cfg Window)

/-- The point a column of the output belongs to. -/
def point (n : Fin 16384) : Fin grid0.N := ⟨n.val / 256, by have := n.isLt; have h : grid0.N = 64 := by decide +kernel
                                                            omega⟩

/-- The rates of a point. -/
def part (X : S16384.Idx → EReal) (t : Fin grid0.N) : Vec Ideal S256 .f32 := fun y =>
  X (ix1 (⟨t.val * 256 + (y 0).val, by have := t.isLt; have h : grid0.N = 64 := by decide +kernel
                                       have hy : (y 0).val < 256 := (y 0).isLt
                                       omega⟩ : Fin 16384))

/-- The output array for given rates. -/
def array (X : S16384.Idx → EReal) : S256x16384.Idx → BitVec 32 := fun z =>
  outBlk (F := Ideal) (grid0.coords (point (z 1))) table (part X (point (z 1))) (ix2 (z 0) (⟨(z 1).val % 256, Nat.mod_lt _ (by decide)⟩ : Fin 256))

variable (m : (ℓ : Loc nD τ sig) → Buf (Elt Ideal) ℓ)

theorem coords_at : ∀ t : Fin grid0.N, (grid0.coords t 0).val = t.val := by decide +kernel
theorem index0 : ∀ t : Fin grid0.N, win0_0.index t = ![t.val] := by decide +kernel
theorem index1 : ∀ t : Fin grid0.N, win0_1.index t = ![0, 0] := by decide +kernel
theorem index2 : ∀ t : Fin grid0.N, win0_2.index t = ![0, t.val] := by decide +kernel

/-- The host's constant is the table, -/
theorem host_table (c : Dev nD) : (V0 (F := Ideal) m c (Proc.devRef .tc main_c) : S40x2.Idx → BitVec 32) = table := by
  unfold V0
  simp only [List.flatten_cons, List.flatten_nil, List.append_nil]
  after_results
  rfl

/-- and every point sees it. -/
theorem tblk_eq (c : Dev nD) (t : Fin (cfg0 (F := Ideal)).N) : tblk m c t = table := by
  rw [← host_table m c]
  blk_ext! [tblk, index1 t]

/-- The block of rates at a point. -/
theorem xblk_eq (c : Dev nD) (t : Fin (cfg0 (F := Ideal)).N) :
    xblk m c t = part (m ((c : Thread nD τ).loc main_arg0) : S16384.Idx → EReal) t := by
  have e : (V0 (F := Ideal) m c (Proc.devRef .tc main_arg0) : S16384.Idx → EReal) = m ((c : Thread nD τ).loc main_arg0) := rates_kept (fun b => m (c, b))
  rw [← e]
  funext y
  unfold part
  blk_simp [xblk]
  congr 1
  blk_ext [index0 t]

/-- The output array after all points. -/
theorem spikes_eq (c : Dev nD) : spikes m c = array (m ((c : Thread nD τ).loc main_arg0) : S16384.Idx → EReal) := by
  refine (dats m 0 c).arrAt_eq_of_covers (2 : Fin 3) _ (by decide +kernel) fun t hf y => ?_
  blk_simp
  show outBlk (F := Ideal) (grid0.coords t) (tblk m c t) (xblk m c t) y = _
  rw [tblk_eq, xblk_eq]
  unfold array
  have h0 : ((((win0_2.blk t).view.emb y) 0 : Fin 256)).val = (y 0).val := by
    blk_simp [index2 t]
  have h1 : ((((win0_2.blk t).view.emb y) 1 : Fin 16384)).val = t.val * 256 + (y 1).val := by
    blk_simp [index2 t]
  have hy : (y 1).val < 256 := (y 1).isLt
  have hp : point (((win0_2.blk t).view.emb y) 1) = t := Fin.ext (by show _ / 256 = _; rw [h1]; omega)
  rw [hp]
  congr 1
  funext a
  apply Fin.ext
  fin_cases a
  · exact h0.symm
  · show _ = _ % 256
    rw [h1]
    show (y 1).val = _
    omega

/-- The number drawn for element `n` at step `j`. -/
def counts (X : S16384.Idx → EReal) (n : Fin 16384) (j : ℕ) : BitVec 32 :=
  Model.count Model.subkey (BitVec.ofNat 32 (n.val * 256 + j)) (-(X (ix1 n))) 40

/-- It is the one of its lane at its point. -/
theorem counts_lane (X : S16384.Idx → EReal) (n : Fin 16384) :
    K (grid0.coords (point n)) (part X (point n)) (⟨n.val % 256, Nat.mod_lt _ (by decide)⟩ : Fin 256) = counts X n := by
  funext j
  have hn := n.isLt
  have e1 : ((grid0.coords (point n) 0).val * 256 + n.val % 256) * 256 + j = n.val * 256 + j := by
    rw [coords_at]
    show (n.val / 256 * 256 + n.val % 256) * 256 + j = _
    omega
  have e2 : @Eq EReal (part X (point n) (ix1 (⟨n.val % 256, Nat.mod_lt _ (by decide)⟩ : Fin 256))) (X (ix1 n)) := by
    refine congrArg (fun k : Fin 16384 => X (ix1 k)) (Fin.ext ?_)
    show n.val / 256 * 256 + n.val % 256 = n.val
    omega
  unfold K counts
  rw [e2]
  exact congrArg (fun k => Model.count Model.subkey (BitVec.ofNat 32 k) (-(X (ix1 n))) 40) e1

/-- The kernel's result, set where the neuron spikes. -/
theorem result_iff (c : Dev nD) (j : Fin 256) (n : Fin 16384) :
    IntOp.cmpi .ne (spikes m c (ix2 j n)) 0#32 = 1#1
      ↔ Model.Spike (counts (m ((c : Thread nD τ).loc main_arg0) : S16384.Idx → EReal) n) j.val := by
  rw [spikes_eq, ← counts_lane]
  exact block_iff _ _ j _

end Cert.Proof.KI
-- ==== Proof.RI.Frame.lean ====
/-
  The reference's run leaves its argument as it was.
-/
module

public import proofs.«01_k».proof.Proof.Gen.ReferenceIdeal.Run
public import proofs.«01_k».proof.Defs
public import Idealize.ShloMosaic.Lib.QuiescentFlight

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- No stretch before the loop writes the rates. -/
theorem rates_pre (V : Valuation τ sig (Elt F)) : afterL preI V (Proc.devRef .tc main_arg0) = V (Proc.devRef .tc main_arg0) := by
  simp only [afterL_cons, afterL_nil]
  rw [after_of_writes_sub hostOps0_2 _ hostOps0_2_writes (by decide +kernel),
    after_of_writes_sub hostOps0_1 _ hostOps0_1_writes (by decide +kernel), after_of_writes_sub hostOps0 _ hostOps0_writes (by decide +kernel)]

/-- Nor does a trip of the loop. -/
theorem rates_trip (V : Valuation τ sig (Elt F)) :
    afterL bodyI (after condOps V) (Proc.devRef .tc main_arg0) = V (Proc.devRef .tc main_arg0) := by
  simp only [afterL_cons, afterL_nil]
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

theorem rates_atK (m : (ℓ : Loc nD τ sig) → Buf (Elt F) ℓ) (c : Dev nD) :
    ∀ k, atK m k c (Proc.devRef .tc main_arg0) = m ((c : Thread nD τ).loc main_arg0)
  | 0 => rates_pre _
  | k + 1 => (rates_trip _).trans (rates_atK m c k)

/-- Nor a stretch after it. -/
theorem rates_post (V : Valuation τ sig (Elt F)) :
    afterL postI (after condOps V) (Proc.devRef .tc main_arg0) = V (Proc.devRef .tc main_arg0) := by
  simp only [afterL_cons, afterL_nil]
  after_reads_simp

/-- The reference runs, and ends with its argument unchanged, its result at the generated fold, and every semaphore at
    zero. -/
theorem run_end (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c : Thread nD τ).loc main_v25)
            = finalContents condOps preI bodyI postI 1073741824 m c (Proc.devRef .tc main_v25)
          ∧ r.2.mem ((c : Thread nD τ).loc main_arg0) = m ((c : Thread nD τ).loc main_arg0)) ∧ r.2.sem = fun _ => 0) :=
  (θ_run _ _ _).mono (fun r h => ⟨fun c => ⟨h c main_v25 rfl, (h c main_arg0 rfl).trans
      ((rates_post _).trans (rates_atK m c _))⟩, sem_eq_zero_of_no_sems (by decide) r.2⟩) (run_fold m ρ)

end Cert.Proof.RI

end
-- ==== Proof.RI.Words.lean ====
/-
  What the reference's three stretches of generator rounds share: a part of a stretch, and the words one lane carries
  through it.
-/
module

public import proofs.«01_k».proof.Proof.Gen.ReferenceIdeal.Run
public import proofs.«01_k».proof.Proof.Threefry

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

/-- A part of a stretch: `n` operations from the `a`-th. -/
abbrev part (ops : List (HloOp τ sig (Elt F))) (a n : ℕ) : List (HloOp τ sig (Elt F)) := (ops.drop a).take n

/-- The index of a value without dimensions. -/
abbrev i0 : S_.Idx := fun d => d.elim0

/-- A value without dimensions holds one element. -/
theorem wide_eq {α : Type} {s : Shape} (h : S_.BroadcastsInDim s ![]) (v : S_.Idx → α) (x : s.Idx) :
    broadcastInDim s ![] h v x = v i0 := congrArg v (funext fun d => d.elim0)

/-- The first, second and third word of the key and the pair of words in hand, at a lane of an array of shape `s`. -/
abbrev lane {s : Shape} (h : S_.BroadcastsInDim s ![]) (k1 k2 ks : S_.Idx → BitVec 32) (x0 x1 : s.Idx → BitVec 32) (x : s.Idx) : Words :=
  (broadcastInDim s ![] h k1 x, broadcastInDim s ![] h k2 x, broadcastInDim s ![] h ks x, x0 x, x1 x)

/-- The words of a key, as the reference takes them out of it. -/
abbrev word0 (v : S2.Idx → BitVec 32) : S_.Idx → BitVec 32 := shapeCast S_ (extractStridedSlice S1 ![0] v slices_S2_S1_0) shapeCasts_S1_S_
@[inherit_doc word0]
abbrev word1 (v : S2.Idx → BitVec 32) : S_.Idx → BitVec 32 := shapeCast S_ (extractStridedSlice S1 ![1] v slices_S2_S1_1) shapeCasts_S1_S_

/-- The index `i` of a key of two words. -/
def at2 (i : Fin 2) : S2.Idx := fun d => ⟨i.val, by match d with | ⟨0, _⟩ => exact i.isLt⟩

theorem word0_eq (v : S2.Idx → BitVec 32) (i : S_.Idx) : word0 v i = v (at2 0) := by
  refine congrArg v (funext fun d => ?_)
  match d with
  | ⟨0, _⟩ =>
    have h := (Shape.reshapeEquiv shapeCasts_S1_S_ i (0 : Fin 1)).isLt
    exact Fin.ext (show 0 + (Shape.reshapeEquiv shapeCasts_S1_S_ i (0 : Fin 1)).val = 0 by
      have h' : (Shape.reshapeEquiv shapeCasts_S1_S_ i (0 : Fin 1)).val < 1 := h
      omega)
theorem word1_eq (v : S2.Idx → BitVec 32) (i : S_.Idx) : word1 v i = v (at2 1) := by
  refine congrArg v (funext fun d => ?_)
  match d with
  | ⟨0, _⟩ =>
    have h := (Shape.reshapeEquiv shapeCasts_S1_S_ i (0 : Fin 1)).isLt
    exact Fin.ext (show 1 + (Shape.reshapeEquiv shapeCasts_S1_S_ i (0 : Fin 1)).val = 1 by
      have h' : (Shape.reshapeEquiv shapeCasts_S1_S_ i (0 : Fin 1)).val < 1 := h
      omega)

end Cert.Proof.RI

end
-- ==== Proof.RI.FoldIn.lean ====
/-
  The generator's rounds in the reference's first key, lane by lane.
-/
module

public import proofs.«01_k».proof.Proof.RI.Words

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

set_option maxHeartbeats 4000000 in
/-- Rounds 1 to 4 and the key words after them. -/
theorem fold_step1 (V : Valuation τ sig (Elt F)) (x : S1.Idx) :
    lane bcast_S_S1 (after (part hostOps0_1 20 43) V (Proc.devRef .tc main_call0_v6)) (after (part hostOps0_1 20 43) V (Proc.devRef .tc main_call0_v8)) (after (part hostOps0_1 20 43) V (Proc.devRef .tc main_call0_call0_v1))
      (after (part hostOps0_1 20 43) V (Proc.devRef .tc main_call0_call0_v35)) (after (part hostOps0_1 20 43) V (Proc.devRef .tc main_call0_call0_v39)) x
      = step1 xrR (lane bcast_S_S1 (V (Proc.devRef .tc main_call0_v6)) (V (Proc.devRef .tc main_call0_v8)) (V (Proc.devRef .tc main_call0_call0_v1))
      (V (Proc.devRef .tc main_call0_call0_v3)) (V (Proc.devRef .tc main_call0_call0_v5)) x) := by
  dsimp only [hostOps0_1, part, List.drop, List.take]
  after_reads_simp
  rfl

set_option maxHeartbeats 4000000 in
/-- Rounds 5 to 8 and the key words after them. -/
theorem fold_step2 (V : Valuation τ sig (Elt F)) (x : S1.Idx) :
    lane bcast_S_S1 (after (part hostOps0_1 63 43) V (Proc.devRef .tc main_call0_v6)) (after (part hostOps0_1 63 43) V (Proc.devRef .tc main_call0_v8)) (after (part hostOps0_1 63 43) V (Proc.devRef .tc main_call0_call0_v1))
      (after (part hostOps0_1 63 43) V (Proc.devRef .tc main_call0_call0_v69)) (after (part hostOps0_1 63 43) V (Proc.devRef .tc main_call0_call0_v73)) x
      = step2 xrR (lane bcast_S_S1 (V (Proc.devRef .tc main_call0_v6)) (V (Proc.devRef .tc main_call0_v8)) (V (Proc.devRef .tc main_call0_call0_v1))
      (V (Proc.devRef .tc main_call0_call0_v35)) (V (Proc.devRef .tc main_call0_call0_v39)) x) := by
  dsimp only [hostOps0_1, part, List.drop, List.take]
  after_reads_simp
  rfl

set_option maxHeartbeats 4000000 in
/-- Rounds 9 to 12 and the key words after them. -/
theorem fold_step3 (V : Valuation τ sig (Elt F)) (x : S1.Idx) :
    lane bcast_S_S1 (after (part hostOps0_1 106 43) V (Proc.devRef .tc main_call0_v6)) (after (part hostOps0_1 106 43) V (Proc.devRef .tc main_call0_v8)) (after (part hostOps0_1 106 43) V (Proc.devRef .tc main_call0_call0_v1))
      (after (part hostOps0_1 106 43) V (Proc.devRef .tc main_call0_call0_v103)) (after (part hostOps0_1 106 43) V (Proc.devRef .tc main_call0_call0_v107)) x
      = step3 xrR (lane bcast_S_S1 (V (Proc.devRef .tc main_call0_v6)) (V (Proc.devRef .tc main_call0_v8)) (V (Proc.devRef .tc main_call0_call0_v1))
      (V (Proc.devRef .tc main_call0_call0_v69)) (V (Proc.devRef .tc main_call0_call0_v73)) x) := by
  dsimp only [hostOps0_1, part, List.drop, List.take]
  after_reads_simp
  rfl

set_option maxHeartbeats 4000000 in
/-- Rounds 13 to 16 and the key words after them. -/
theorem fold_step4 (V : Valuation τ sig (Elt F)) (x : S1.Idx) :
    lane bcast_S_S1 (after (part hostOps0_1 149 43) V (Proc.devRef .tc main_call0_v6)) (after (part hostOps0_1 149 43) V (Proc.devRef .tc main_call0_v8)) (after (part hostOps0_1 149 43) V (Proc.devRef .tc main_call0_call0_v1))
      (after (part hostOps0_1 149 43) V (Proc.devRef .tc main_call0_call0_v137)) (after (part hostOps0_1 149 43) V (Proc.devRef .tc main_call0_call0_v141)) x
      = step4 xrR (lane bcast_S_S1 (V (Proc.devRef .tc main_call0_v6)) (V (Proc.devRef .tc main_call0_v8)) (V (Proc.devRef .tc main_call0_call0_v1))
      (V (Proc.devRef .tc main_call0_call0_v103)) (V (Proc.devRef .tc main_call0_call0_v107)) x) := by
  dsimp only [hostOps0_1, part, List.drop, List.take]
  after_reads_simp
  rfl

set_option maxHeartbeats 4000000 in
/-- Rounds 17 to 20 and the key words after them. -/
theorem fold_step5 (V : Valuation τ sig (Elt F)) (x : S1.Idx) :
    lane bcast_S_S1 (after (part hostOps0_1 192 43) V (Proc.devRef .tc main_call0_v6)) (after (part hostOps0_1 192 43) V (Proc.devRef .tc main_call0_v8)) (after (part hostOps0_1 192 43) V (Proc.devRef .tc main_call0_call0_v1))
      (after (part hostOps0_1 192 43) V (Proc.devRef .tc main_call0_v11_0)) (after (part hostOps0_1 192 43) V (Proc.devRef .tc main_call0_v11_1)) x
      = step5 xrR (lane bcast_S_S1 (V (Proc.devRef .tc main_call0_v6)) (V (Proc.devRef .tc main_call0_v8)) (V (Proc.devRef .tc main_call0_call0_v1))
      (V (Proc.devRef .tc main_call0_call0_v137)) (V (Proc.devRef .tc main_call0_call0_v141)) x) := by
  dsimp only [hostOps0_1, part, List.drop, List.take]
  after_reads_simp
  rfl

end Cert.Proof.RI

end
-- ==== Proof.RI.First.lean ====
/-
  The reference's first key, and its state before the loop.
-/
module

public import proofs.«01_k».proof.Proof.RI.FoldIn
public import Idealize.ShloMosaic.Lib.StableHlo.ReadAt

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

/-- The seed's key is two zero words. -/
theorem seed_key (V : Valuation τ sig (Elt F)) (i : Fin 2) :
    (after hostOps0 V (Proc.devRef .tc main_v6) : S2.Idx → BitVec 32) (ix1 i) = 0#32 := by
  have h : hostOps0 (F := F) = part hostOps0 0 9 ++ part hostOps0 9 2 := rfl
  have h1 : ∀ V : Valuation τ sig (Elt F), (after (part hostOps0 0 9) V (Proc.devRef .tc main_v2) : S1.Idx → BitVec 32) (ix1 0) = 0#32
      ∧ (after (part hostOps0 0 9) V (Proc.devRef .tc main_v5) : S1.Idx → BitVec 32) (ix1 0) = 0#32 := by
    intro V
    dsimp only [hostOps0, part, List.drop, List.take]
    constructor <;> after_reads_at <;> rfl
  have h2 : ∀ V : Valuation τ sig (Elt F), (after (part hostOps0 9 2) V (Proc.devRef .tc main_v6) : S2.Idx → BitVec 32) (ix1 0)
      = (V (Proc.devRef .tc main_v2) : S1.Idx → BitVec 32) (ix1 0)
      ∧ (after (part hostOps0 9 2) V (Proc.devRef .tc main_v6) : S2.Idx → BitVec 32) (ix1 1)
      = (V (Proc.devRef .tc main_v5) : S1.Idx → BitVec 32) (ix1 0) := by
    intro V
    dsimp only [hostOps0, part, List.drop, List.take]
    constructor <;> after_reads_at <;> rfl
  rw [h, after_append]
  match i with
  | 0 => exact (h2 _).1.trans (h1 V).1
  | 1 => exact (h2 _).2.trans (h1 V).2

/-- The number folded in is one. -/
theorem seed_number (V : Valuation τ sig (Elt F)) (i : S_.Idx) :
    (after hostOps0 V (Proc.devRef .tc main_c_2) : S_.Idx → BitVec 32) i = 1#32 := by
  after_reads_simp
  rfl

/-- The words of the number folded in, and the key kept. -/
theorem fold_number (V : Valuation τ sig (Elt F)) (h1 : ∀ i, (V (Proc.devRef .tc main_c_2) : S_.Idx → BitVec 32) i = 1#32) :
    (after (part hostOps0_1 0 6) V (Proc.devRef .tc main_call0_v1) : S1.Idx → BitVec 32) (ix1 0) = 0#32
      ∧ (after (part hostOps0_1 0 6) V (Proc.devRef .tc main_call0_v3) : S1.Idx → BitVec 32) (ix1 0) = 1#32
      ∧ after (part hostOps0_1 0 6) V (Proc.devRef .tc main_v6) = V (Proc.devRef .tc main_v6) := by
  dsimp only [hostOps0_1, part, List.drop, List.take]
  refine ⟨?_, ?_, ?_⟩
  · after_reads_at
    rw [h1]
    rfl
  · after_reads_at
    rw [h1]
    rfl
  · after_reads_simp

/-- Those words as one counter. -/
theorem fold_counter (V : Valuation τ sig (Elt F)) :
    (after (part hostOps0_1 6 1) V (Proc.devRef .tc main_call0_v4) : S2.Idx → BitVec 32) (ix1 0)
        = (V (Proc.devRef .tc main_call0_v1) : S1.Idx → BitVec 32) (ix1 0)
      ∧ (after (part hostOps0_1 6 1) V (Proc.devRef .tc main_call0_v4) : S2.Idx → BitVec 32) (ix1 1)
        = (V (Proc.devRef .tc main_call0_v3) : S1.Idx → BitVec 32) (ix1 0)
      ∧ after (part hostOps0_1 6 1) V (Proc.devRef .tc main_v6) = V (Proc.devRef .tc main_v6) := by
  dsimp only [hostOps0_1, part, List.drop, List.take]
  refine ⟨?_, ?_, ?_⟩
  · after_reads_at; rfl
  · after_reads_at; rfl
  · after_reads_simp

/-- The words before the first round. -/
theorem fold_start (V : Valuation τ sig (Elt F)) :
    lane bcast_S_S1 (after (part hostOps0_1 7 13) V (Proc.devRef .tc main_call0_v6)) (after (part hostOps0_1 7 13) V (Proc.devRef .tc main_call0_v8))
      (after (part hostOps0_1 7 13) V (Proc.devRef .tc main_call0_call0_v1))
      (after (part hostOps0_1 7 13) V (Proc.devRef .tc main_call0_call0_v3)) (after (part hostOps0_1 7 13) V (Proc.devRef .tc main_call0_call0_v5)) (ix1 0)
      = start (broadcastInDim S1 ![] bcast_S_S1 (word0 (V (Proc.devRef .tc main_v6))) (ix1 0))
          (broadcastInDim S1 ![] bcast_S_S1 (word1 (V (Proc.devRef .tc main_v6))) (ix1 0))
          (extractStridedSlice S1 ![0] (V (Proc.devRef .tc main_call0_v4) : S2.Idx → BitVec 32) slices_S2_S1_0 (ix1 0))
          (extractStridedSlice S1 ![1] (V (Proc.devRef .tc main_call0_v4) : S2.Idx → BitVec 32) slices_S2_S1_1 (ix1 0)) := by
  dsimp only [hostOps0_1, part, List.drop, List.take]
  after_reads_simp
  rfl

/-- The folded key. -/
theorem fold_table (V : Valuation τ sig (Elt F)) :
    (after (part hostOps0_1 235 1) V (Proc.devRef .tc main_v7) : S2.Idx → BitVec 32) (ix1 0)
        = (V (Proc.devRef .tc main_call0_v11_0) : S1.Idx → BitVec 32) (ix1 0)
      ∧ (after (part hostOps0_1 235 1) V (Proc.devRef .tc main_v7) : S2.Idx → BitVec 32) (ix1 1)
        = (V (Proc.devRef .tc main_call0_v11_1) : S1.Idx → BitVec 32) (ix1 0) := by
  dsimp only [hostOps0_1, part, List.drop, List.take]
  constructor <;> after_reads_at <;> rfl

theorem at2_eq (i : Fin 2) : at2 i = ix1 i := funext fun d => by
  match d with
  | ⟨0, _⟩ => rfl

set_option maxRecDepth 4000 in
theorem fold_parts (V : Valuation τ sig (Elt F)) :
    after hostOps0_1 V = after (part hostOps0_1 235 1) (after (part hostOps0_1 192 43) (after (part hostOps0_1 149 43)
      (after (part hostOps0_1 106 43) (after (part hostOps0_1 63 43) (after (part hostOps0_1 20 43)
        (after (part hostOps0_1 7 13) (after (part hostOps0_1 6 1) (after (part hostOps0_1 0 6) V)))))))) := by
  simp only [← after_append]
  rfl

/-- The loop's first key: the generator at the counter `(0, 1)` under the seed's key. -/
theorem first_key (V : Valuation τ sig (Elt F)) :
    ((after hostOps0_1 (after hostOps0 V) (Proc.devRef .tc main_v7) : S2.Idx → BitVec 32) (at2 0),
      (after hostOps0_1 (after hostOps0 V) (Proc.devRef .tc main_v7) : S2.Idx → BitVec 32) (at2 1))
      = threefry xrL 0#32 0#32 (0#32, 1#32) := by
  obtain ⟨n1, n2, n3⟩ := fold_number (after hostOps0 V) (seed_number V)
  obtain ⟨c1, c2, c3⟩ := fold_counter (after (part hostOps0_1 0 6) (after hostOps0 V))
  have h := fold_step5 (after (part hostOps0_1 149 43)
      (after (part hostOps0_1 106 43) (after (part hostOps0_1 63 43) (after (part hostOps0_1 20 43)
        (after (part hostOps0_1 7 13) (after (part hostOps0_1 6 1) (after (part hostOps0_1 0 6) (after hostOps0 V)))))))) (ix1 0)
  rw [fold_step4, fold_step3, fold_step2, fold_step1, fold_start, steps, xrR_eq, wide_eq, wide_eq, word0_eq, word1_eq, c3, n3,
    at2_eq, at2_eq, seed_key, seed_key] at h
  have e0 := c1.trans n1
  have e1 := c2.trans n2
  have g0 : (extractStridedSlice S1 ![0] (after (part hostOps0_1 6 1) (after (part hostOps0_1 0 6) (after hostOps0 V)) (Proc.devRef .tc main_call0_v4) : S2.Idx → BitVec 32) slices_S2_S1_0 (ix1 0)) = 0#32 :=
    (congrArg (after (part hostOps0_1 6 1) (after (part hostOps0_1 0 6) (after hostOps0 V)) (Proc.devRef .tc main_call0_v4) : S2.Idx → BitVec 32)
      (funext fun d => by match d with | ⟨0, _⟩ => rfl)).trans e0
  have g1 : (extractStridedSlice S1 ![1] (after (part hostOps0_1 6 1) (after (part hostOps0_1 0 6) (after hostOps0 V)) (Proc.devRef .tc main_call0_v4) : S2.Idx → BitVec 32) slices_S2_S1_1 (ix1 0)) = 1#32 :=
    (congrArg (after (part hostOps0_1 6 1) (after (part hostOps0_1 0 6) (after hostOps0 V)) (Proc.devRef .tc main_call0_v4) : S2.Idx → BitVec 32)
      (funext fun d => by match d with | ⟨0, _⟩ => rfl)).trans e1
  rw [g0, g1] at h
  rw [fold_parts, at2_eq, at2_eq, (fold_table _).1, (fold_table _).2]
  exact congrArg (fun w : Words => w.2.2.2) h

end Cert.Proof.RI

end
-- ==== Proof.RI.Split.lean ====
/-
  The generator's rounds in the reference's split of a key, lane by lane.
-/
module

public import proofs.«01_k».proof.Proof.RI.Words

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

set_option maxHeartbeats 4000000 in
/-- The key's words and the number of the new key, before the first round. -/
theorem split_start (V : Valuation τ sig (Elt F)) (x : S2.Idx) :
    lane bcast_S_S2 (after (part while0Ops0_1 0 20) V (Proc.devRef .tc main_while0b_call1_v1)) (after (part while0Ops0_1 0 20) V (Proc.devRef .tc main_while0b_call1_v3)) (after (part while0Ops0_1 0 20) V (Proc.devRef .tc main_while0b_call1_call0_v1))
      (after (part while0Ops0_1 0 20) V (Proc.devRef .tc main_while0b_call1_call0_v3)) (after (part while0Ops0_1 0 20) V (Proc.devRef .tc main_while0b_call1_call0_v5)) x
      = start (broadcastInDim _ ![] bcast_S_S2 (word0 (V (Proc.devRef .tc main_v12_4))) x)
          (broadcastInDim _ ![] bcast_S_S2 (word1 (V (Proc.devRef .tc main_v12_4))) x)
          (((1#64 * BitVec.ofNat 64 (x 0).val) >>> 32).setWidth 32)
          ((1#64 * BitVec.ofNat 64 (x 0).val).setWidth 32) := by
  dsimp only [while0Ops0_1, part, List.drop, List.take]
  after_reads_simp
  rfl

set_option maxHeartbeats 4000000 in
/-- Rounds 1 to 4 and the key words after them. -/
theorem split_step1 (V : Valuation τ sig (Elt F)) (x : S2.Idx) :
    lane bcast_S_S2 (after (part while0Ops0_1 20 43) V (Proc.devRef .tc main_while0b_call1_v1)) (after (part while0Ops0_1 20 43) V (Proc.devRef .tc main_while0b_call1_v3)) (after (part while0Ops0_1 20 43) V (Proc.devRef .tc main_while0b_call1_call0_v1))
      (after (part while0Ops0_1 20 43) V (Proc.devRef .tc main_while0b_call1_call0_v35)) (after (part while0Ops0_1 20 43) V (Proc.devRef .tc main_while0b_call1_call0_v39)) x
      = step1 xrR (lane bcast_S_S2 (V (Proc.devRef .tc main_while0b_call1_v1)) (V (Proc.devRef .tc main_while0b_call1_v3)) (V (Proc.devRef .tc main_while0b_call1_call0_v1))
      (V (Proc.devRef .tc main_while0b_call1_call0_v3)) (V (Proc.devRef .tc main_while0b_call1_call0_v5)) x) := by
  dsimp only [while0Ops0_1, part, List.drop, List.take]
  after_reads_simp
  rfl

set_option maxHeartbeats 4000000 in
/-- Rounds 5 to 8 and the key words after them. -/
theorem split_step2 (V : Valuation τ sig (Elt F)) (x : S2.Idx) :
    lane bcast_S_S2 (after (part while0Ops0_1 63 43) V (Proc.devRef .tc main_while0b_call1_v1)) (after (part while0Ops0_1 63 43) V (Proc.devRef .tc main_while0b_call1_v3)) (after (part while0Ops0_1 63 43) V (Proc.devRef .tc main_while0b_call1_call0_v1))
      (after (part while0Ops0_1 63 43) V (Proc.devRef .tc main_while0b_call1_call0_v69)) (after (part while0Ops0_1 63 43) V (Proc.devRef .tc main_while0b_call1_call0_v73)) x
      = step2 xrR (lane bcast_S_S2 (V (Proc.devRef .tc main_while0b_call1_v1)) (V (Proc.devRef .tc main_while0b_call1_v3)) (V (Proc.devRef .tc main_while0b_call1_call0_v1))
      (V (Proc.devRef .tc main_while0b_call1_call0_v35)) (V (Proc.devRef .tc main_while0b_call1_call0_v39)) x) := by
  dsimp only [while0Ops0_1, part, List.drop, List.take]
  after_reads_simp
  rfl

set_option maxHeartbeats 4000000 in
/-- Rounds 9 to 12 and the key words after them. -/
theorem split_step3 (V : Valuation τ sig (Elt F)) (x : S2.Idx) :
    lane bcast_S_S2 (after (part while0Ops0_1 106 43) V (Proc.devRef .tc main_while0b_call1_v1)) (after (part while0Ops0_1 106 43) V (Proc.devRef .tc main_while0b_call1_v3)) (after (part while0Ops0_1 106 43) V (Proc.devRef .tc main_while0b_call1_call0_v1))
      (after (part while0Ops0_1 106 43) V (Proc.devRef .tc main_while0b_call1_call0_v103)) (after (part while0Ops0_1 106 43) V (Proc.devRef .tc main_while0b_call1_call0_v107)) x
      = step3 xrR (lane bcast_S_S2 (V (Proc.devRef .tc main_while0b_call1_v1)) (V (Proc.devRef .tc main_while0b_call1_v3)) (V (Proc.devRef .tc main_while0b_call1_call0_v1))
      (V (Proc.devRef .tc main_while0b_call1_call0_v69)) (V (Proc.devRef .tc main_while0b_call1_call0_v73)) x) := by
  dsimp only [while0Ops0_1, part, List.drop, List.take]
  after_reads_simp
  rfl

set_option maxHeartbeats 4000000 in
/-- Rounds 13 to 16 and the key words after them. -/
theorem split_step4 (V : Valuation τ sig (Elt F)) (x : S2.Idx) :
    lane bcast_S_S2 (after (part while0Ops0_1 149 43) V (Proc.devRef .tc main_while0b_call1_v1)) (after (part while0Ops0_1 149 43) V (Proc.devRef .tc main_while0b_call1_v3)) (after (part while0Ops0_1 149 43) V (Proc.devRef .tc main_while0b_call1_call0_v1))
      (after (part while0Ops0_1 149 43) V (Proc.devRef .tc main_while0b_call1_call0_v137)) (after (part while0Ops0_1 149 43) V (Proc.devRef .tc main_while0b_call1_call0_v141)) x
      = step4 xrR (lane bcast_S_S2 (V (Proc.devRef .tc main_while0b_call1_v1)) (V (Proc.devRef .tc main_while0b_call1_v3)) (V (Proc.devRef .tc main_while0b_call1_call0_v1))
      (V (Proc.devRef .tc main_while0b_call1_call0_v103)) (V (Proc.devRef .tc main_while0b_call1_call0_v107)) x) := by
  dsimp only [while0Ops0_1, part, List.drop, List.take]
  after_reads_simp
  rfl

set_option maxHeartbeats 4000000 in
/-- Rounds 17 to 20 and the key words after them. -/
theorem split_step5 (V : Valuation τ sig (Elt F)) (x : S2.Idx) :
    lane bcast_S_S2 (after (part while0Ops0_1 192 43) V (Proc.devRef .tc main_while0b_call1_v1)) (after (part while0Ops0_1 192 43) V (Proc.devRef .tc main_while0b_call1_v3)) (after (part while0Ops0_1 192 43) V (Proc.devRef .tc main_while0b_call1_call0_v1))
      (after (part while0Ops0_1 192 43) V (Proc.devRef .tc main_while0b_call1_v11_0)) (after (part while0Ops0_1 192 43) V (Proc.devRef .tc main_while0b_call1_v11_1)) x
      = step5 xrR (lane bcast_S_S2 (V (Proc.devRef .tc main_while0b_call1_v1)) (V (Proc.devRef .tc main_while0b_call1_v3)) (V (Proc.devRef .tc main_while0b_call1_call0_v1))
      (V (Proc.devRef .tc main_while0b_call1_call0_v137)) (V (Proc.devRef .tc main_while0b_call1_call0_v141)) x) := by
  dsimp only [while0Ops0_1, part, List.drop, List.take]
  after_reads_simp
  rfl

end Cert.Proof.RI

end
-- ==== Proof.RI.Key.lean ====
/-
  The reference's split of a key, as the generator's words.
-/
module

public import proofs.«01_k».proof.Proof.RI.Split
public import Idealize.ShloMosaic.Lib.StableHlo.ReadAt

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

set_option maxRecDepth 4000 in
/-- The stretch of the split, cut at the groups of rounds. -/
theorem split_parts (V : Valuation τ sig (Elt F)) :
    after while0Ops0_1 V = after (part while0Ops0_1 237 1) (after (part while0Ops0_1 235 2) (after (part while0Ops0_1 192 43) (after (part while0Ops0_1 149 43)
      (after (part while0Ops0_1 106 43) (after (part while0Ops0_1 63 43) (after (part while0Ops0_1 20 43) (after (part while0Ops0_1 0 20) V))))))) := by
  simp only [← after_append]
  rfl

/-- The new keys' words before they are laid side by side: the generator's two words at the key's words and the new
    key's number. -/
theorem split_words (V : Valuation τ sig (Elt F)) (x : S2.Idx) :
    (((after (part while0Ops0_1 192 43) (after (part while0Ops0_1 149 43)
      (after (part while0Ops0_1 106 43) (after (part while0Ops0_1 63 43) (after (part while0Ops0_1 20 43) (after (part while0Ops0_1 0 20) V))))))
        (Proc.devRef .tc main_while0b_call1_v11_0) : S2.Idx → BitVec 32) x,
      ((after (part while0Ops0_1 192 43) (after (part while0Ops0_1 149 43)
      (after (part while0Ops0_1 106 43) (after (part while0Ops0_1 63 43) (after (part while0Ops0_1 20 43) (after (part while0Ops0_1 0 20) V))))))
        (Proc.devRef .tc main_while0b_call1_v11_1) : S2.Idx → BitVec 32) x)
      = threefry xrL ((V (Proc.devRef .tc main_v12_4) : S2.Idx → BitVec 32) (at2 0))
          ((V (Proc.devRef .tc main_v12_4) : S2.Idx → BitVec 32) (at2 1)) (0#32, BitVec.ofNat 32 (x 0).val) := by
  have h := split_step5 (after (part while0Ops0_1 149 43)
      (after (part while0Ops0_1 106 43) (after (part while0Ops0_1 63 43) (after (part while0Ops0_1 20 43) (after (part while0Ops0_1 0 20) V))))) x
  rw [split_step4, split_step3, split_step2, split_step1, split_start, steps, xrR_eq, wide_eq, wide_eq, word0_eq, word1_eq] at h
  have hx : (x 0).val < 2 := (x 0).isLt
  have h1 : ((1#64 * BitVec.ofNat 64 (x 0).val) >>> 32).setWidth 32 = 0#32 := by
    generalize (x 0).val = n at hx
    interval_cases n <;> rfl
  have h2 : (1#64 * BitVec.ofNat 64 (x 0).val).setWidth 32 = BitVec.ofNat 32 (x 0).val := by
    generalize (x 0).val = n at hx
    interval_cases n <;> rfl
  rw [h1, h2] at h
  exact congrArg (fun w : Words => w.2.2.2) h

set_option maxHeartbeats 4000000 in
/-- The new key is the first row of the split. -/
theorem split_row0 (V : Valuation τ sig (Elt F)) (x : S2.Idx) :
    (after while0Ops0_2 V (Proc.devRef .tc main_while0b_v29) : S2.Idx → BitVec 32) x
      = (V (Proc.devRef .tc main_while0b_v27) : S2x2.Idx → BitVec 32) (ix2 0 (x 0)) := by
  after_reads_at

set_option maxHeartbeats 4000000 in
/-- The key of the trip's draw is the second. -/
theorem split_row1 (V : Valuation τ sig (Elt F)) (x : S2.Idx) :
    (after while0Ops0_2 V (Proc.devRef .tc main_while0b_v31) : S2.Idx → BitVec 32) x
      = (V (Proc.devRef .tc main_while0b_v27) : S2x2.Idx → BitVec 32) (ix2 1 (x 0)) := by
  after_reads_at

set_option maxHeartbeats 4000000 in
/-- The generator's two words of every new key, as columns. -/
theorem split_columns (V : Valuation τ sig (Elt F)) (x : S2x1.Idx) :
    ((after (part while0Ops0_1 235 2) V (Proc.devRef .tc main_while0b_call1_v12) : S2x1.Idx → BitVec 32) x,
      (after (part while0Ops0_1 235 2) V (Proc.devRef .tc main_while0b_call1_v13) : S2x1.Idx → BitVec 32) x)
      = ((V (Proc.devRef .tc main_while0b_call1_v11_0) : S2.Idx → BitVec 32) (ix1 (x 0)),
        (V (Proc.devRef .tc main_while0b_call1_v11_1) : S2.Idx → BitVec 32) (ix1 (x 0))) := by
  dsimp only [while0Ops0_1, part, List.drop, List.take]
  after_reads_at

set_option maxHeartbeats 4000000 in
/-- The new keys, one to a row. -/
theorem split_table (V : Valuation τ sig (Elt F)) (r : Fin 2) :
    ((after (part while0Ops0_1 237 1) V (Proc.devRef .tc main_while0b_v27) : S2x2.Idx → BitVec 32) (ix2 r 0),
      (after (part while0Ops0_1 237 1) V (Proc.devRef .tc main_while0b_v27) : S2x2.Idx → BitVec 32) (ix2 r 1))
      = ((V (Proc.devRef .tc main_while0b_call1_v12) : S2x1.Idx → BitVec 32) (ix2 r 0),
        (V (Proc.devRef .tc main_while0b_call1_v13) : S2x1.Idx → BitVec 32) (ix2 r 0)) := by
  dsimp only [while0Ops0_1, part, List.drop, List.take]
  after_reads_at
  rfl

/-- Row `r` of the split of a key is the generator at the counter `(0, r)` under it. -/
theorem split_value (V : Valuation τ sig (Elt F)) (r : Fin 2) :
    ((after while0Ops0_1 V (Proc.devRef .tc main_while0b_v27) : S2x2.Idx → BitVec 32) (ix2 r 0),
      (after while0Ops0_1 V (Proc.devRef .tc main_while0b_v27) : S2x2.Idx → BitVec 32) (ix2 r 1))
      = threefry xrL ((V (Proc.devRef .tc main_v12_4) : S2.Idx → BitVec 32) (at2 0))
          ((V (Proc.devRef .tc main_v12_4) : S2.Idx → BitVec 32) (at2 1)) (0#32, BitVec.ofNat 32 r.val) := by
  rw [split_parts, split_table]
  exact (split_columns _ (ix2 r 0)).trans (split_words V (ix1 r))

end Cert.Proof.RI

end
-- ==== Proof.RI.Uniform.lean ====
/-
  The generator's rounds in the reference's uniform draw, lane by lane.
-/
module

public import proofs.«01_k».proof.Proof.RI.Words

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

set_option maxHeartbeats 4000000 in
/-- The key's words and the element's number, before the first round. -/
theorem uniform_start (V : Valuation τ sig (Elt F)) (x : S16384x256.Idx) :
    lane bcast_S_S16384x256 (after (part while0Ops0_3 0 29) V (Proc.devRef .tc main_while0b_call2_v5)) (after (part while0Ops0_3 0 29) V (Proc.devRef .tc main_while0b_call2_v7)) (after (part while0Ops0_3 0 29) V (Proc.devRef .tc main_while0b_call2_call0_v1))
      (after (part while0Ops0_3 0 29) V (Proc.devRef .tc main_while0b_call2_call0_v3)) (after (part while0Ops0_3 0 29) V (Proc.devRef .tc main_while0b_call2_call0_v5)) x
      = start (broadcastInDim _ ![] bcast_S_S16384x256 (word0 (V (Proc.devRef .tc main_while0b_v31))) x)
          (broadcastInDim _ ![] bcast_S_S16384x256 (word1 (V (Proc.devRef .tc main_while0b_v31))) x)
          (((256#64 * BitVec.ofNat 64 (x 0).val + 1#64 * BitVec.ofNat 64 (x 1).val) >>> 32).setWidth 32)
          ((256#64 * BitVec.ofNat 64 (x 0).val + 1#64 * BitVec.ofNat 64 (x 1).val).setWidth 32) := by
  dsimp only [while0Ops0_3, part, List.drop, List.take]
  after_reads_simp
  rfl

set_option maxHeartbeats 4000000 in
/-- Rounds 1 to 4 and the key words after them. -/
theorem uniform_step1 (V : Valuation τ sig (Elt F)) (x : S16384x256.Idx) :
    lane bcast_S_S16384x256 (after (part while0Ops0_3 29 43) V (Proc.devRef .tc main_while0b_call2_v5)) (after (part while0Ops0_3 29 43) V (Proc.devRef .tc main_while0b_call2_v7)) (after (part while0Ops0_3 29 43) V (Proc.devRef .tc main_while0b_call2_call0_v1))
      (after (part while0Ops0_3 29 43) V (Proc.devRef .tc main_while0b_call2_call0_v35)) (after (part while0Ops0_3 29 43) V (Proc.devRef .tc main_while0b_call2_call0_v39)) x
      = step1 xrR (lane bcast_S_S16384x256 (V (Proc.devRef .tc main_while0b_call2_v5)) (V (Proc.devRef .tc main_while0b_call2_v7)) (V (Proc.devRef .tc main_while0b_call2_call0_v1))
      (V (Proc.devRef .tc main_while0b_call2_call0_v3)) (V (Proc.devRef .tc main_while0b_call2_call0_v5)) x) := by
  dsimp only [while0Ops0_3, part, List.drop, List.take]
  after_reads_simp
  rfl

set_option maxHeartbeats 4000000 in
/-- Rounds 5 to 8 and the key words after them. -/
theorem uniform_step2 (V : Valuation τ sig (Elt F)) (x : S16384x256.Idx) :
    lane bcast_S_S16384x256 (after (part while0Ops0_3 72 43) V (Proc.devRef .tc main_while0b_call2_v5)) (after (part while0Ops0_3 72 43) V (Proc.devRef .tc main_while0b_call2_v7)) (after (part while0Ops0_3 72 43) V (Proc.devRef .tc main_while0b_call2_call0_v1))
      (after (part while0Ops0_3 72 43) V (Proc.devRef .tc main_while0b_call2_call0_v69)) (after (part while0Ops0_3 72 43) V (Proc.devRef .tc main_while0b_call2_call0_v73)) x
      = step2 xrR (lane bcast_S_S16384x256 (V (Proc.devRef .tc main_while0b_call2_v5)) (V (Proc.devRef .tc main_while0b_call2_v7)) (V (Proc.devRef .tc main_while0b_call2_call0_v1))
      (V (Proc.devRef .tc main_while0b_call2_call0_v35)) (V (Proc.devRef .tc main_while0b_call2_call0_v39)) x) := by
  dsimp only [while0Ops0_3, part, List.drop, List.take]
  after_reads_simp
  rfl

set_option maxHeartbeats 4000000 in
/-- Rounds 9 to 12 and the key words after them. -/
theorem uniform_step3 (V : Valuation τ sig (Elt F)) (x : S16384x256.Idx) :
    lane bcast_S_S16384x256 (after (part while0Ops0_3 115 43) V (Proc.devRef .tc main_while0b_call2_v5)) (after (part while0Ops0_3 115 43) V (Proc.devRef .tc main_while0b_call2_v7)) (after (part while0Ops0_3 115 43) V (Proc.devRef .tc main_while0b_call2_call0_v1))
      (after (part while0Ops0_3 115 43) V (Proc.devRef .tc main_while0b_call2_call0_v103)) (after (part while0Ops0_3 115 43) V (Proc.devRef .tc main_while0b_call2_call0_v107)) x
      = step3 xrR (lane bcast_S_S16384x256 (V (Proc.devRef .tc main_while0b_call2_v5)) (V (Proc.devRef .tc main_while0b_call2_v7)) (V (Proc.devRef .tc main_while0b_call2_call0_v1))
      (V (Proc.devRef .tc main_while0b_call2_call0_v69)) (V (Proc.devRef .tc main_while0b_call2_call0_v73)) x) := by
  dsimp only [while0Ops0_3, part, List.drop, List.take]
  after_reads_simp
  rfl

set_option maxHeartbeats 4000000 in
/-- Rounds 13 to 16 and the key words after them. -/
theorem uniform_step4 (V : Valuation τ sig (Elt F)) (x : S16384x256.Idx) :
    lane bcast_S_S16384x256 (after (part while0Ops0_3 158 43) V (Proc.devRef .tc main_while0b_call2_v5)) (after (part while0Ops0_3 158 43) V (Proc.devRef .tc main_while0b_call2_v7)) (after (part while0Ops0_3 158 43) V (Proc.devRef .tc main_while0b_call2_call0_v1))
      (after (part while0Ops0_3 158 43) V (Proc.devRef .tc main_while0b_call2_call0_v137)) (after (part while0Ops0_3 158 43) V (Proc.devRef .tc main_while0b_call2_call0_v141)) x
      = step4 xrR (lane bcast_S_S16384x256 (V (Proc.devRef .tc main_while0b_call2_v5)) (V (Proc.devRef .tc main_while0b_call2_v7)) (V (Proc.devRef .tc main_while0b_call2_call0_v1))
      (V (Proc.devRef .tc main_while0b_call2_call0_v103)) (V (Proc.devRef .tc main_while0b_call2_call0_v107)) x) := by
  dsimp only [while0Ops0_3, part, List.drop, List.take]
  after_reads_simp
  rfl

set_option maxHeartbeats 4000000 in
/-- Rounds 17 to 20 and the key words after them. -/
theorem uniform_step5 (V : Valuation τ sig (Elt F)) (x : S16384x256.Idx) :
    lane bcast_S_S16384x256 (after (part while0Ops0_3 201 43) V (Proc.devRef .tc main_while0b_call2_v5)) (after (part while0Ops0_3 201 43) V (Proc.devRef .tc main_while0b_call2_v7)) (after (part while0Ops0_3 201 43) V (Proc.devRef .tc main_while0b_call2_call0_v1))
      (after (part while0Ops0_3 201 43) V (Proc.devRef .tc main_while0b_call2_v19_0)) (after (part while0Ops0_3 201 43) V (Proc.devRef .tc main_while0b_call2_v19_1)) x
      = step5 xrR (lane bcast_S_S16384x256 (V (Proc.devRef .tc main_while0b_call2_v5)) (V (Proc.devRef .tc main_while0b_call2_v7)) (V (Proc.devRef .tc main_while0b_call2_call0_v1))
      (V (Proc.devRef .tc main_while0b_call2_call0_v137)) (V (Proc.devRef .tc main_while0b_call2_call0_v141)) x) := by
  dsimp only [while0Ops0_3, part, List.drop, List.take]
  after_reads_simp
  rfl

end Cert.Proof.RI

end
-- ==== Proof.RI.Draw.lean ====
/-
  The reference's uniform draw, from the key and an element's number.
-/
module

public import proofs.«01_k».proof.Proof.RI.Uniform
public import proofs.«01_k».proof.Proof.Model
public import Idealize.ShloMosaic.Lib.StableHlo.ReadAt

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry

variable {F : FTy → Type} [FloatOps F]

/-- The stretch of the draw up to the generator's two words. -/
def drawn (V : Valuation τ sig (Elt F)) : Valuation τ sig (Elt F) :=
  after (part while0Ops0_3 201 43) (after (part while0Ops0_3 158 43)
      (after (part while0Ops0_3 115 43) (after (part while0Ops0_3 72 43) (after (part while0Ops0_3 29 43) (after (part while0Ops0_3 0 29) V)))))

set_option maxRecDepth 4000 in
/-- The stretch of the draw, cut at the groups of rounds. -/
theorem uniform_parts (V : Valuation τ sig (Elt F)) :
    after while0Ops0_3 V = after (part while0Ops0_3 244 18) (drawn V) := by
  unfold drawn
  simp only [← after_append]
  rfl

/-- The element's number, as the reference counts it. -/
theorem number_low {i j : ℕ} (hi : i < 16384) (hj : j < 256) :
    (256#64 * BitVec.ofNat 64 i + 1#64 * BitVec.ofNat 64 j).setWidth 32 = BitVec.ofNat 32 (i * 256 + j) := by
  apply BitVec.eq_of_toNat_eq
  simp only [BitVec.toNat_setWidth, BitVec.toNat_add, BitVec.toNat_mul, BitVec.toNat_ofNat]
  omega

/-- Its upper word is zero. -/
theorem number_high {i j : ℕ} (hi : i < 16384) (hj : j < 256) :
    ((256#64 * BitVec.ofNat 64 i + 1#64 * BitVec.ofNat 64 j) >>> 32).setWidth 32 = 0#32 := by
  apply BitVec.eq_of_toNat_eq
  simp only [BitVec.toNat_setWidth, BitVec.toNat_ushiftRight, BitVec.toNat_add, BitVec.toNat_mul, BitVec.toNat_ofNat, Nat.shiftRight_eq_div_pow]
  omega

/-- The generator's two words at every element. -/
theorem uniform_words (V : Valuation τ sig (Elt F)) (x : S16384x256.Idx) :
    ((drawn V (Proc.devRef .tc main_while0b_call2_v19_0) : S16384x256.Idx → BitVec 32) x,
      (drawn V (Proc.devRef .tc main_while0b_call2_v19_1) : S16384x256.Idx → BitVec 32) x)
      = threefry xrL ((V (Proc.devRef .tc main_while0b_v31) : S2.Idx → BitVec 32) (at2 0))
          ((V (Proc.devRef .tc main_while0b_v31) : S2.Idx → BitVec 32) (at2 1)) (0#32, BitVec.ofNat 32 ((x 0).val * 256 + (x 1).val)) := by
  have h := uniform_step5 (after (part while0Ops0_3 158 43)
      (after (part while0Ops0_3 115 43) (after (part while0Ops0_3 72 43) (after (part while0Ops0_3 29 43) (after (part while0Ops0_3 0 29) V))))) x
  rw [uniform_step4, uniform_step3, uniform_step2, uniform_step1, uniform_start, steps, xrR_eq, wide_eq, wide_eq, word0_eq, word1_eq,
    number_high (x 0).isLt (x 1).isLt, number_low (x 0).isLt (x 1).isLt] at h
  exact congrArg (fun w : Words => w.2.2.2) h

/-- The interval the draw is scaled to, kept through the rounds. -/
theorem uniform_ends (V : Valuation τ sig (Elt F)) (x : S1x1.Idx) :
    ((drawn V (Proc.devRef .tc main_while0b_call2_v2) : S1x1.Idx → F .f32) x,
      (drawn V (Proc.devRef .tc main_while0b_call2_v3) : S1x1.Idx → F .f32) x)
      = ((V (Proc.devRef .tc main_while0b_cst_16) : S_.Idx → F .f32) i0, (V (Proc.devRef .tc main_while0b_cst_17) : S_.Idx → F .f32) i0) := by
  have h0 : ∀ V : Valuation τ sig (Elt F), (after (part while0Ops0_3 0 29) V (Proc.devRef .tc main_while0b_call2_v2) : S1x1.Idx → F .f32) x
      = (V (Proc.devRef .tc main_while0b_cst_16) : S_.Idx → F .f32) i0 ∧
      (after (part while0Ops0_3 0 29) V (Proc.devRef .tc main_while0b_call2_v3) : S1x1.Idx → F .f32) x
      = (V (Proc.devRef .tc main_while0b_cst_17) : S_.Idx → F .f32) i0 := by
    intro V
    dsimp only [while0Ops0_3, part, List.drop, List.take]
    constructor
    · after_reads_simp
      exact wide_eq bcast_S_S1x1 (V (Proc.devRef .tc main_while0b_cst_16) : S_.Idx → F .f32) x
    · after_reads_simp
      exact wide_eq bcast_S_S1x1 (V (Proc.devRef .tc main_while0b_cst_17) : S_.Idx → F .f32) x
  have keep : ∀ (a : ℕ), a ∈ [29, 72, 115, 158, 201] → ∀ V : Valuation τ sig (Elt F),
      after (part while0Ops0_3 a 43) V (Proc.devRef .tc main_while0b_call2_v2) = V (Proc.devRef .tc main_while0b_call2_v2) ∧
      after (part while0Ops0_3 a 43) V (Proc.devRef .tc main_while0b_call2_v3) = V (Proc.devRef .tc main_while0b_call2_v3) := by
    intro a ha V
    simp only [List.mem_cons, List.not_mem_nil, or_false] at ha
    rcases ha with rfl | rfl | rfl | rfl | rfl <;>
    · dsimp only [while0Ops0_3, part, List.drop, List.take]
      constructor <;> after_reads_simp
  unfold drawn
  rw [(keep 201 (by decide) _).1, (keep 158 (by decide) _).1, (keep 115 (by decide) _).1, (keep 72 (by decide) _).1, (keep 29 (by decide) _).1,
    (keep 201 (by decide) _).2, (keep 158 (by decide) _).2, (keep 115 (by decide) _).2, (keep 72 (by decide) _).2, (keep 29 (by decide) _).2]
  exact Prod.ext (h0 V).1 (h0 V).2

/-- The bit pattern of a draw, in `[1, 2)`, from the generator's two words. -/
abbrev pattern (a b : BitVec 32) : BitVec 32 := (a ^^^ b) >>> 9 ||| 1065353216#32

set_option maxHeartbeats 4000000 in
/-- The draw from the generator's two words. -/
theorem uniform_tail (V : Valuation τ sig (Elt F)) (x : S16384x256.Idx) :
    (after (part while0Ops0_3 244 18) V (Proc.devRef .tc main_while0b_v37) : S16384x256.Idx → F .f32) x
      = FloatOps.maximumf ((V (Proc.devRef .tc main_while0b_call2_v2) : S1x1.Idx → F .f32) (ix2 0 0))
          (FloatOps.addf
            (FloatOps.mulf
              (FloatOps.subf
                (FloatOps.ofBits .f32
                  (pattern ((V (Proc.devRef .tc main_while0b_call2_v19_0) : S16384x256.Idx → BitVec 32) x)
                    ((V (Proc.devRef .tc main_while0b_call2_v19_1) : S16384x256.Idx → BitVec 32) x)))
                (FloatOps.ofBits .f32 1065353216#32))
              (FloatOps.subf ((V (Proc.devRef .tc main_while0b_call2_v3) : S1x1.Idx → F .f32) (ix2 0 0))
                ((V (Proc.devRef .tc main_while0b_call2_v2) : S1x1.Idx → F .f32) (ix2 0 0))))
            ((V (Proc.devRef .tc main_while0b_call2_v2) : S1x1.Idx → F .f32) (ix2 0 0))) := by
  dsimp only [while0Ops0_3, part, List.drop, List.take]
  after_reads_at
  rfl

/-- The draw at the ideal instance, scaled to the unit interval: the fraction its mantissa bits spell. -/
theorem uniform_value (V : Valuation τ sig (Elt Ideal)) (x : S16384x256.Idx)
    (h0 : @Eq EReal (V (Proc.devRef .tc main_while0b_cst_16) i0) 0)
    (h1 : @Eq EReal (V (Proc.devRef .tc main_while0b_cst_17) i0) 1) :
    (after while0Ops0_3 V (Proc.devRef .tc main_while0b_v37) : S16384x256.Idx → EReal) x
      = Model.unit (mant ((V (Proc.devRef .tc main_while0b_v31) : S2.Idx → BitVec 32) (at2 0))
          ((V (Proc.devRef .tc main_while0b_v31) : S2.Idx → BitVec 32) (at2 1)) (BitVec.ofNat 32 ((x 0).val * 256 + (x 1).val))) := by
  have e := uniform_ends V (ix2 0 0)
  have w := uniform_words V x
  have e0 := (congrArg Prod.fst e).trans h0
  have e1 := (congrArg Prod.snd e).trans h1
  have w0 := congrArg Prod.fst w
  have w1 := congrArg Prod.snd w
  dsimp only at e0 e1 w0 w1
  rw [uniform_parts, uniform_tail, e0, e1, w0, w1]
  have hu := Model.unit_nonneg (mant ((V (Proc.devRef .tc main_while0b_v31) : S2.Idx → BitVec 32) (at2 0))
          ((V (Proc.devRef .tc main_while0b_v31) : S2.Idx → BitVec 32) (at2 1)) (BitVec.ofNat 32 ((x 0).val * 256 + (x 1).val))) (Model.mant_lt _ _ _)
  show max (0 : EReal) ((Ideal.ofBits .f32 (mant _ _ _ ||| 1065353216#32) - Ideal.ofBits .f32 1065353216#32) * (1 - 0) + 0) = _
  rw [Ideal.ofBits_one_f32, sub_zero, mul_one, add_zero]
  exact max_eq_right hu

end Cert.Proof.RI

end
-- ==== Proof.RI.Trip.lean ====
/-
  One trip of the reference's loop, and the loop's state after any number of them.
-/
module

public import proofs.«01_k».proof.Proof.RI.Frame
public import proofs.«01_k».proof.Proof.RI.First
public import proofs.«01_k».proof.Proof.RI.Key
public import proofs.«01_k».proof.Proof.RI.Draw

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry Cert.Proof.Model

/-- The number of an element. -/
abbrev num (x : S16384x256.Idx) : BitVec 32 := BitVec.ofNat 32 ((x 0).val * 256 + (x 1).val)

/-- The state of the loop after `n` trips at the rates `lam`. -/
structure AtTrip (lam : S16384.Idx → EReal) (n : ℕ) (V : Valuation τ sig (Elt Ideal)) : Prop where
  kept : ∀ x : S16384x256.Idx, @Eq EReal (V (Proc.devRef .tc main_v9) x) (lam (ix1 (x 0)))
  rate : ∀ x : S16384x256.Idx, @Eq EReal (V (Proc.devRef .tc main_v12_0) x) (lam (ix1 (x 0)))
  count : ∀ x : S16384x256.Idx, @Eq (BitVec 32) (V (Proc.devRef .tc main_v12_3) x) (Model.count subkey (num x) (-(lam (ix1 (x 0)))) n)
  key : @Eq (BitVec 32 × BitVec 32) (V (Proc.devRef .tc main_v12_4) (at2 0), V (Proc.devRef .tc main_v12_4) (at2 1)) (chain n)
  sum : ∀ x : S16384x256.Idx, @Eq EReal (V (Proc.devRef .tc main_v12_5) x) (logp subkey (num x) n)

variable {lam : S16384.Idx → EReal} {n : ℕ} {V : Valuation τ sig (Elt Ideal)}

/-- The state is of what five arrays hold. -/
theorem AtTrip.of_eq (h : AtTrip lam n V) {V' : Valuation τ sig (Elt Ideal)}
    (e : ∀ b ∈ [main_v9, main_v12_0, main_v12_3, main_v12_4, main_v12_5], V' (Proc.devRef .tc b) = V (Proc.devRef .tc b)) :
    AtTrip lam n V' where
  kept x := (congrFun (e main_v9 (by decide +kernel)) x).trans (h.kept x)
  rate x := (congrFun (e main_v12_0 (by decide +kernel)) x).trans (h.rate x)
  count x := (congrFun (e main_v12_3 (by decide +kernel)) x).trans (h.count x)
  key := (congrArg₂ Prod.mk (congrFun (e main_v12_4 (by decide +kernel)) _) (congrFun (e main_v12_4 (by decide +kernel)) _)).trans h.key
  sum x := (congrFun (e main_v12_5 (by decide +kernel)) x).trans (h.sum x)

/-- The loop's test changes nothing it carries. -/
theorem AtTrip.cond (h : AtTrip lam n V) : AtTrip lam n (after condOps V) :=
  h.of_eq fun b hb => after_of_writes_sub condOps V condOps_writes
    ((by decide +kernel : ∀ b ∈ [main_v9, main_v12_0, main_v12_3, main_v12_4, main_v12_5], b ∉ condOps_W) b hb)

/-- Nor do the trip's first two stretches. -/
theorem AtTrip.split (h : AtTrip lam n V) : AtTrip lam n (after while0Ops0_1 (after while0Ops0 V)) :=
  h.of_eq fun b hb => (after_of_writes_sub while0Ops0_1 _ while0Ops0_1_writes
      ((by decide +kernel : ∀ b ∈ [main_v9, main_v12_0, main_v12_3, main_v12_4, main_v12_5], b ∉ while0Ops0_1_W) b hb)).trans
    (after_of_writes_sub while0Ops0 V while0Ops0_writes
      ((by decide +kernel : ∀ b ∈ [main_v9, main_v12_0, main_v12_3, main_v12_4, main_v12_5], b ∉ while0Ops0_W) b hb))

set_option maxHeartbeats 1000000 in
/-- The count of the trip. -/
theorem count_value (V : Valuation τ sig (Elt Ideal)) (x : S16384x256.Idx) :
    @Eq (BitVec 32) (after while0Ops0_2 V (Proc.devRef .tc main_while0b_v36) x)
      (Scalar.select (Ideal.cmp .ogt (V (Proc.devRef .tc main_v12_5) x) (@Neg.neg EReal _ (V (Proc.devRef .tc main_v12_0) x)))
        (@HAdd.hAdd (BitVec 32) (BitVec 32) (BitVec 32) _ (V (Proc.devRef .tc main_v12_3) x) 1#32)
        (V (Proc.devRef .tc main_v12_3) x)) := by
  after_reads_at
  rfl

/-- The interval of the draw. -/
theorem ends_value (V : Valuation τ sig (Elt Ideal)) :
    @Eq EReal (after while0Ops0_2 V (Proc.devRef .tc main_while0b_cst_16) i0) 0 ∧
      @Eq EReal (after while0Ops0_2 V (Proc.devRef .tc main_while0b_cst_17) i0) 1 := by
  constructor
  · after_reads_at
    exact Ideal.ofBits_zero_f32
  · after_reads_at
    exact Ideal.ofBits_one_f32

/-- The sum of the trip. -/
theorem sum_value (V : Valuation τ sig (Elt Ideal)) (x : S16384x256.Idx) :
    @Eq EReal (after while0Ops0_4 V (Proc.devRef .tc main_v12_5) x)
      (@HAdd.hAdd EReal EReal EReal _ (V (Proc.devRef .tc main_v12_5) x) (Ideal.log (V (Proc.devRef .tc main_while0b_v37) x))) := by
  after_reads_at
  rfl

/-- What the trip hands on as it stands. -/
theorem handed (V : Valuation τ sig (Elt Ideal)) :
    after while0Ops0_4 V (Proc.devRef .tc main_v12_3) = V (Proc.devRef .tc main_while0b_v36) ∧
      after while0Ops0_4 V (Proc.devRef .tc main_v12_4) = V (Proc.devRef .tc main_while0b_v29) := by
  constructor <;> after_reads_simp <;> rfl

set_option maxHeartbeats 4000000 in
/-- A trip of the loop. -/
theorem AtTrip.trip (h : AtTrip lam n V) : AtTrip lam (n + 1) (afterL bodyI (after condOps V)) := by
  simp only [afterL_cons, afterL_nil]
  have h1 := h.cond.split
  have h0 := h.cond
  have hs := split_value (after while0Ops0 (after condOps V))
  have hk : @Eq (BitVec 32 × BitVec 32) (after while0Ops0 (after condOps V) (Proc.devRef .tc main_v12_4) (at2 0),
      after while0Ops0 (after condOps V) (Proc.devRef .tc main_v12_4) (at2 1)) (chain n) := by
    rw [after_of_writes_sub while0Ops0 _ while0Ops0_writes (by decide +kernel)]
    exact h0.key
  generalize hV1 : after while0Ops0_1 (after while0Ops0 (after condOps V)) = V1 at *
  generalize after while0Ops0 (after condOps V) = V0 at *
  have k2 : ∀ b ∈ [main_v9, main_v12_0, main_v12_3, main_v12_4, main_v12_5],
      after while0Ops0_3 (after while0Ops0_2 V1) (Proc.devRef .tc b) = V1 (Proc.devRef .tc b) := fun b hb =>
    (after_of_writes_sub while0Ops0_3 _ while0Ops0_3_writes
      ((by decide +kernel : ∀ b ∈ [main_v9, main_v12_0, main_v12_3, main_v12_4, main_v12_5], b ∉ while0Ops0_3_W) b hb)).trans
    (after_of_writes_sub while0Ops0_2 V1 while0Ops0_2_writes
      ((by decide +kernel : ∀ b ∈ [main_v9, main_v12_0, main_v12_3, main_v12_4, main_v12_5], b ∉ while0Ops0_2_W) b hb))
  have h3 := h1.of_eq k2
  have k4 : ∀ b ∈ [main_v9, main_v12_0], after while0Ops0_4 (after while0Ops0_3 (after while0Ops0_2 V1)) (Proc.devRef .tc b)
      = after while0Ops0_3 (after while0Ops0_2 V1) (Proc.devRef .tc b) := fun b hb =>
    after_of_writes_sub while0Ops0_4 _ while0Ops0_4_writes
      ((by decide +kernel : ∀ b ∈ [main_v9, main_v12_0], b ∉ while0Ops0_4_W) b hb)
  have w36 : after while0Ops0_3 (after while0Ops0_2 V1) (Proc.devRef .tc main_while0b_v36) = after while0Ops0_2 V1 (Proc.devRef .tc main_while0b_v36) :=
    after_of_writes_sub while0Ops0_3 _ while0Ops0_3_writes (by decide +kernel)
  have w29 : after while0Ops0_3 (after while0Ops0_2 V1) (Proc.devRef .tc main_while0b_v29) = after while0Ops0_2 V1 (Proc.devRef .tc main_while0b_v29) :=
    after_of_writes_sub while0Ops0_3 _ while0Ops0_3_writes (by decide +kernel)
  have row : ∀ r : Fin 2, @Eq (BitVec 32 × BitVec 32) (V1 (Proc.devRef .tc main_while0b_v27) (ix2 r 0), V1 (Proc.devRef .tc main_while0b_v27) (ix2 r 1))
      (threefry xrL (chain n).1 (chain n).2 (0#32, BitVec.ofNat 32 r.val)) := fun r => by
    have e := hs r
    rw [← hk]
    exact e
  refine ⟨fun x => (congrFun (k4 main_v9 (by decide +kernel)) x).trans (h3.kept x), fun x => (congrFun (k4 main_v12_0 (by decide +kernel)) x).trans (h3.rate x), fun x => ?_, ?_, fun x => ?_⟩
  · refine (congrFun ((handed _).1.trans w36) x).trans ((count_value V1 x).trans ?_)
    rw [h1.count x, h1.sum x, h1.rate x, Model.count]
    unfold Scalar.select Ideal.cmp
    by_cases hc : -(lam (ix1 (x 0))) < logp subkey (num x) n
    · simp [hc]
    · simp [hc]
  · have e := row 0
    refine Eq.trans ?_ e
    refine congrArg₂ Prod.mk ?_ ?_
    · exact (congrFun ((handed _).2.trans w29) _).trans (split_row0 V1 _)
    · exact (congrFun ((handed _).2.trans w29) _).trans (split_row0 V1 _)
  · refine (sum_value _ x).trans ?_
    have e := row 1
    have u := uniform_value (after while0Ops0_2 V1) x (ends_value V1).1 (ends_value V1).2
    rw [split_row1, split_row1] at u
    have e1 : @Eq (BitVec 32) (V1 (Proc.devRef .tc main_while0b_v27) (ix2 1 0)) (subkey n).1 := congrArg Prod.fst e
    have e2 : @Eq (BitVec 32) (V1 (Proc.devRef .tc main_while0b_v27) (ix2 1 1)) (subkey n).2 := congrArg Prod.snd e
    refine congrArg₂ (fun a b : EReal => a + b) (h3.sum x) (congrArg Ideal.log (u.trans ?_))
    exact congrArg₂ (fun a b => unit (mant a b (num x))) e1 e2

end Cert.Proof.RI

end
-- ==== Proof.RI.Post.lean ====
/-
  The reference's result, from the loop's counts.
-/
module

public import proofs.«01_k».proof.Proof.RI.Trip
public import proofs.«01_k».proof.Proof.Above

@[expose] public section

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value Cert.Proof.Threefry Cert.Proof.Model Cert.Proof.Above

/-- A running maximum along the second axis is above a bound that is not below zero, when an element not after it is. -/
theorem above_running (x : S16384x256.Idx → BitVec 32) (v : S_.Idx → BitVec 32) (hv : ∀ i, v i = 2147483648#32)
    (h : S16384x256.ReduceWindows ![1, 256] ![1, 1] ![0, 255] ![0, 0] S16384x256) (hu : 0 < S_.numel) {b : ℤ} (hb : 0 ≤ b)
    (i : Fin 16384) (j : Fin 256) :
    Above b (Host.reduceWindow IntOp.maxsi ![1, 256] ![1, 1] ![0, 255] ![0, 0] x v h hu (ix2 i j))
      ↔ ∃ j' : Fin 256, j' ≤ j ∧ Above b (x (ix2 i j')) := by
  unfold Host.reduceWindow
  simp only [hv]
  rw [above_fold]
  constructor
  · rintro (h0 | ⟨n, -, hn⟩)
    · exact absurd h0 (not_above_least hb)
    · split at hn
      · rename_i hin
        have h1 := hin (1 : Fin 2)
        let q : (⟨2, ![1, 256]⟩ : Shape).Idx := (⟨2, ![1, 256]⟩ : Shape).rowMajor.symm n
        have q1 : (q (1 : Fin 2)).val < 256 := (q (1 : Fin 2)).isLt
        have q0 : (q (0 : Fin 2)).val < 1 := (q (0 : Fin 2)).isLt
        have h1' : 255 ≤ j.val * 1 + (q (1 : Fin 2)).val ∧ j.val * 1 + (q (1 : Fin 2)).val - 255 < 256 := h1
        refine ⟨⟨j.val * 1 + (q (1 : Fin 2)).val - 255, h1'.2⟩, Fin.le_def.mpr (show j.val * 1 + (q (1 : Fin 2)).val - 255 ≤ j.val by omega), ?_⟩
        refine cast (congrArg (fun k => Above b (x k)) (funext fun a => ?_)) hn
        match a with
        | ⟨0, _⟩ => exact Fin.ext (show i.val * 1 + (q (0 : Fin 2)).val - 0 = i.val by omega)
        | ⟨1, _⟩ => exact Fin.ext rfl
      · exact absurd hn (not_above_least hb)
  · rintro ⟨j', hj, hx⟩
    right
    have hj' : j'.val ≤ j.val := hj
    let q : (⟨S16384x256.rank, ![1, 256]⟩ : Shape).Idx := fun a => match a with
      | ⟨0, _⟩ => (⟨0, by decide⟩ : Fin 1)
      | ⟨1, _⟩ => (⟨j'.val + 255 - j.val, by omega⟩ : Fin 256)
    obtain ⟨n, hn⟩ : ∃ n, (⟨2, ![1, 256]⟩ : Shape).rowMajor.symm n = q := ⟨_, Equiv.symm_apply_apply _ q⟩
    refine ⟨n, List.mem_finRange _, ?_⟩
    have e0 : ((⟨2, ![1, 256]⟩ : Shape).rowMajor.symm n (0 : Fin 2)).val = 0 := congrArg Fin.val (congrFun hn (0 : Fin 2))
    have e1 : ((⟨2, ![1, 256]⟩ : Shape).rowMajor.symm n (1 : Fin 2)).val = j'.val + 255 - j.val := congrArg Fin.val (congrFun hn (1 : Fin 2))
    have hin : ∀ a : Fin 2, (![0, 255] : Fin 2 → ℕ) a ≤ ((ix2 i j : S16384x256.Idx) a).val * (![1, 1] : Fin 2 → ℕ) a + ((⟨2, ![1, 256]⟩ : Shape).rowMajor.symm n a).val
        ∧ ((ix2 i j : S16384x256.Idx) a).val * (![1, 1] : Fin 2 → ℕ) a + ((⟨2, ![1, 256]⟩ : Shape).rowMajor.symm n a).val - (![0, 255] : Fin 2 → ℕ) a < S16384x256.size a := fun a => by
      match a with
      | ⟨0, _⟩ => exact ⟨Nat.zero_le _, show i.val * 1 + ((⟨2, ![1, 256]⟩ : Shape).rowMajor.symm n (0 : Fin 2)).val - 0 < 16384 by omega⟩
      | ⟨1, _⟩ => exact ⟨show 255 ≤ j.val * 1 + ((⟨2, ![1, 256]⟩ : Shape).rowMajor.symm n (1 : Fin 2)).val by omega,
          show j.val * 1 + ((⟨2, ![1, 256]⟩ : Shape).rowMajor.symm n (1 : Fin 2)).val - 255 < 256 by omega⟩
    split
    case isFalse hno => exact absurd hin hno
    refine cast (congrArg (fun k => Above b (x k)) (funext fun a => ?_)) hx
    match a with
    | ⟨0, _⟩ => exact Fin.ext (show i.val = i.val * 1 + ((⟨2, ![1, 256]⟩ : Shape).rowMajor.symm n (0 : Fin 2)).val - 0 by omega)
    | ⟨1, _⟩ => exact Fin.ext (show j'.val = j.val * 1 + ((⟨2, ![1, 256]⟩ : Shape).rowMajor.symm n (1 : Fin 2)).val - 255 by omega)

variable {lam : S16384.Idx → EReal} {V : Valuation τ sig (Elt Ideal)}

/-- The time step each element's spikes reach, and the time steps themselves. -/
theorem ends_at (V : Valuation τ sig (Elt Ideal)) (x : S16384x256.Idx) :
    @Eq (BitVec 32) (after hostOps0_5 (after hostOps0_4 (after hostOps0_3 V)) (Proc.devRef .tc main_v21) x)
      (IntOp.addi (BitVec.ofNat 32 (x 1).val) (Scalar.select (Ideal.cmp .oeq (V (Proc.devRef .tc main_v9) x) 0) 0#32
        (IntOp.subi (V (Proc.devRef .tc main_v12_3) x) 1#32))) := by
  after_reads_at
  show _ = IntOp.addi _ (Scalar.select _ (id (constantI S_ 32 0#32) ix0) _)
  rw [← Ideal.ofBits_zero_f32]
  rfl

theorem steps_at (V : Valuation τ sig (Elt Ideal)) (x : S1x256.Idx) :
    @Eq (BitVec 32) (after hostOps0_5 V (Proc.devRef .tc main_v19) x) (BitVec.ofNat 32 (x 1).val) := by
  after_reads_at

theorem running_at (V : Valuation τ sig (Elt Ideal)) :
    @Eq (S16384x256.Idx → BitVec 32) (after hostOps0_6 V (Proc.devRef .tc main_v22))
      (Host.reduceWindow IntOp.maxsi ![1, 256] ![1, 1] ![0, 255] ![0, 0] (V (Proc.devRef .tc main_v21) : S16384x256.Idx → BitVec 32)
        (broadcastInDim S_ ![] bcast_S_S_ (constantI S_ 32 2147483648#32)) reduceWindows_S16384x256_S16384x256_w1s1p0_0_w256s1p255_0 h_S_) := by
  after_reads_simp
  simp -implicitDefEqProofs only [TRef.toBuf, TRef.ofBuf, cast_cast, cast_eq]

theorem spikes_at (V : Valuation τ sig (Elt Ideal)) (y : S256x16384.Idx) :
    @Eq (BitVec 1) (after hostOps0_7 V (Proc.devRef .tc main_v25) y)
      (IntOp.cmpi .sgt (V (Proc.devRef .tc main_v22) (ix2 (y 1) (y 0))) (V (Proc.devRef .tc main_v19) (ix2 0 (y 0)))) := by
  after_reads_at

/-- The counts of a neuron, by time step. -/
abbrev counts (lam : S16384.Idx → EReal) (i : Fin 16384) (j : ℕ) : BitVec 32 :=
  Model.count subkey (BitVec.ofNat 32 (i.val * 256 + j)) (-(lam (ix1 i))) 1073741824

set_option maxHeartbeats 1000000 in
/-- The reference's result at a time step and a neuron is set when the neuron spikes there. -/
theorem post_value (h : AtTrip lam 1073741824 V) (j : Fin 256) (i : Fin 16384) :
    @Eq (BitVec 1) (afterL postI (after condOps V) (Proc.devRef .tc main_v25) (ix2 j i)) 1#1 ↔ Spike (counts lam i) j.val := by
  simp only [afterL_cons, afterL_nil]
  have hc := h.cond
  generalize after condOps V = V0 at hc ⊢
  have e5 := ends_at V0
  have s5 := steps_at (after hostOps0_4 (after hostOps0_3 V0)) (ix2 0 j)
  generalize after hostOps0_5 (after hostOps0_4 (after hostOps0_3 V0)) = V5 at e5 s5 ⊢
  have r6 := running_at V5
  have k6 : after hostOps0_6 V5 (Proc.devRef .tc main_v19) = V5 (Proc.devRef .tc main_v19) := by
    after_reads_simp
  have v := spikes_at (after hostOps0_6 V5) (ix2 j i)
  have b1 : @Eq (BitVec 32) (after hostOps0_6 V5 (Proc.devRef .tc main_v19) (ix2 0 j)) (BitVec.ofNat 32 j.val) := (congrFun k6 _).trans s5
  have b2 := congrFun r6 (ix2 i j)
  rw [v]
  refine (iff_of_eq (congrArg (· = 1#1) (congrArg₂ (IntOp.cmpi .sgt) b2 b1))).trans ?_
  rw [sgt_iff _ (by omega)]
  refine (above_running (V5 (Proc.devRef .tc main_v21)) (broadcastInDim S_ ![] bcast_S_S_ (constantI S_ 32 2147483648#32)) (fun _ => rfl)
    reduceWindows_S16384x256_S16384x256_w1s1p0_0_w256s1p255_0 h_S_ (Int.natCast_nonneg j.val) i j).trans ?_
  have key : ∀ j' : Fin 256, j' ≤ j → (@Above (j.val : ℤ) (V5 (Proc.devRef .tc main_v21) (ix2 i j')) ↔ (j.val : ℤ) < j'.val + (counts lam i j'.val).toNat - 1) := by
    intro j' hj
    have hj' : j'.val ≤ j.val := hj
    have hK : (counts lam i j'.val).toNat ≤ 2 ^ 30 := count_le _ _ _ 1073741824 (by omega)
    have e := e5 (ix2 i j')
    rw [hc.kept, hc.count] at e
    refine (iff_of_eq (congrArg (Above (j.val : ℤ)) e)).trans ?_
    show Above _ (BitVec.ofNat 32 j'.val + Scalar.select (Ideal.cmp .oeq (lam (ix1 i)) 0) 0#32 (counts lam i j'.val - 1#32)) ↔ _
    by_cases hl : lam (ix1 i) = 0
    · have h0 : counts lam i j'.val = 0#32 := by
        unfold counts
        rw [hl, neg_zero, count_zero]
      rw [h0]
      have : Ideal.cmp .oeq (lam (ix1 i)) 0 = 1#1 := by simp [Ideal.cmp, hl]
      rw [this]
      show _ < (BitVec.ofNat 32 j'.val + 0#32).toInt ↔ (j.val : ℤ) < j'.val + ((0 : ℕ) : ℤ) - 1
      have e := ends_toInt (K := 1#32) (by decide) j'.isLt
      rw [BitVec.add_sub_cancel] at e
      rw [BitVec.add_zero, e]
      show (j.val : ℤ) < j'.val + ((1 : ℕ) : ℤ) - 1 ↔ _
      omega
    · have : Ideal.cmp .oeq (lam (ix1 i)) 0 = 0#1 := by simp [Ideal.cmp, hl]
      rw [this]
      show _ < (BitVec.ofNat 32 j'.val + (counts lam i j'.val - 1#32)).toInt ↔ _
      rw [BitVec.sub_eq_add_neg, ← BitVec.add_assoc, ← BitVec.sub_eq_add_neg, ends_toInt (by omega) j'.isLt]
  constructor
  · rintro ⟨j', hj, ha⟩
    exact ⟨j'.val, hj, (key j' hj).mp ha⟩
  · rintro ⟨j', hj, ha⟩
    exact ⟨⟨j', by omega⟩, hj, (key ⟨j', by omega⟩ hj).mpr ha⟩

/-- The loop's state before its first trip. -/
theorem at_start (V : Valuation τ sig (Elt Ideal)) :
    AtTrip (V (Proc.devRef .tc main_arg0) : S16384.Idx → EReal) 0 (afterL preI V) := by
  simp only [afterL_cons, afterL_nil]
  have hk := first_key V
  have ha : after hostOps0_1 (after hostOps0 V) (Proc.devRef .tc main_arg0) = V (Proc.devRef .tc main_arg0) := by
    rw [after_of_writes_sub hostOps0_1 _ hostOps0_1_writes (by decide +kernel), after_of_writes_sub hostOps0 _ hostOps0_writes (by decide +kernel)]
  generalize after hostOps0_1 (after hostOps0 V) = V1 at hk ha ⊢
  rw [← ha]
  refine ⟨fun x => ?_, fun x => ?_, fun x => ?_, ?_, fun x => ?_⟩
  · after_reads_at
  · after_reads_simp
    show broadcastInDim S16384x256 ![0, 1] bcast_S16384x1_S16384x256_0_1 (broadcastInDim S16384x1 ![0] bcast_S16384_S16384x1_0 (V1 (Proc.devRef .tc main_arg0))) x = _
    pointwise
  · after_reads_at
    rfl
  · refine Eq.trans ?_ hk
    refine congrArg₂ Prod.mk ?_ ?_ <;> after_reads_at <;> rfl
  · after_reads_at
    exact Ideal.ofBits_zero_f32

theorem at_trip (m : (ℓ : Loc nD τ sig) → Buf (Elt Ideal) ℓ) (c : Dev nD) :
    ∀ k, AtTrip (m ((c : Thread nD τ).loc main_arg0) : S16384.Idx → EReal) k (atK m k c)
  | 0 => at_start fun b => m (c, b)
  | k + 1 => (at_trip m c k).trip

/-- The reference's result, set where the neuron spikes. -/
theorem result_iff (m : (ℓ : Loc nD τ sig) → Buf (Elt Ideal) ℓ) (c : Dev nD) (j : Fin 256) (i : Fin 16384) :
    @Eq (BitVec 1) (finalContents condOps preI bodyI postI 1073741824 m c (Proc.devRef .tc main_v25) (ix2 j i)) 1#1
      ↔ Spike (counts (m ((c : Thread nD τ).loc main_arg0) : S16384.Idx → EReal) i) j.val :=
  post_value (at_trip m c 1073741824) j i

end Cert.Proof.RI

end
-- ==== Proof.Lanes.lean ====
/-
  Many numbers below 2^64 side by side in one, and what an operation on that one does to each.
-/
module

public import proofs.«01_k».proof.Proof.Threefry

@[expose] public section

namespace Cert.Proof.Lanes

open Cert.Proof.Threefry

/-- The first `n` numbers of `f` side by side, 64 bits each. -/
def pack : ℕ → (ℕ → ℕ) → ℕ
  | 0, _ => 0
  | n + 1, f => 2 ^ 64 * pack n (fun i => f (i + 1)) + f 0

theorem pack_congr {n : ℕ} {f g : ℕ → ℕ} (h : ∀ i < n, f i = g i) : pack n f = pack n g := by
  induction n generalizing f g with
  | zero => rfl
  | succ n ih =>
    rw [pack, pack, h 0 n.succ_pos, ih (f := fun i => f (i + 1)) (g := fun i => g (i + 1)) fun i hi => h _ (by omega)]

theorem pack_add (n : ℕ) (f g : ℕ → ℕ) : pack n f + pack n g = pack n (fun i => f i + g i) := by
  induction n generalizing f g with
  | zero => rfl
  | succ n ih => simp only [pack, ← ih]; ring

theorem pack_mul (n k : ℕ) (f : ℕ → ℕ) : pack n f * k = pack n (fun i => f i * k) := by
  induction n generalizing f with
  | zero => exact Nat.zero_mul k
  | succ n ih => simp only [pack, ← ih]; ring

/-- One in each of `n` lanes. -/
def ones (n : ℕ) : ℕ := ((2 ^ 64) ^ n - 1) / (2 ^ 64 - 1)

theorem ones_mul (n : ℕ) : (2 ^ 64 - 1) * pack n (fun _ => 1) + 1 = (2 ^ 64) ^ n := by
  induction n with
  | zero => rfl
  | succ n ih => rw [pow_succ (2 ^ 64) n, ← ih, pack]; ring

theorem ones_eq (n : ℕ) : ones n = pack n (fun _ => 1) := by
  rw [ones, ← ones_mul, Nat.add_sub_cancel]
  exact Nat.mul_div_cancel_left _ (by norm_num)

/-- The number `k` in each of `n` lanes. -/
theorem ones_splat (n k : ℕ) : ones n * k = pack n (fun _ => k) := by
  rw [ones_eq, pack_mul]
  simp only [one_mul]

/-- Each of `n` lanes' own number. -/
def iota (n : ℕ) : ℕ := (n * (2 ^ 64) ^ n + 1 - ones (n + 1)) / (2 ^ 64 - 1)

theorem iota_mul (n : ℕ) : (2 ^ 64 - 1) * pack n (fun i => i) + pack (n + 1) (fun _ => 1) = n * (2 ^ 64) ^ n + 1 := by
  induction n with
  | zero => rfl
  | succ n ih =>
    have h1 := ones_mul n
    have h2 : pack (n + 1) (fun i => i) = 2 ^ 64 * (pack n (fun i => i) + pack n (fun _ => 1)) := by
      rw [pack_add]; rfl
    have h3 : ∀ n, pack (n + 1) (fun _ => 1) = 2 ^ 64 * pack n (fun _ => 1) + 1 := fun _ => rfl
    rw [h2, h3 (n + 1)]
    rw [h3] at ih ⊢
    rw [pow_succ (2 ^ 64) n]
    generalize pack n (fun i => i) = P at *
    generalize pack n (fun _ => 1) = O at *
    generalize (2 ^ 64) ^ n = Q at *
    have e : (n + 1) * (Q * 2 ^ 64) = 2 ^ 64 * (n * Q) + 2 ^ 64 * Q := by ring
    rw [e]
    generalize n * Q = R at *
    omega

theorem iota_eq (n : ℕ) : iota n = pack n (fun i => i) := by
  rw [iota, ones_eq, ← iota_mul, Nat.add_sub_cancel]
  exact Nat.mul_div_cancel_left _ (by norm_num)

/-- A shift to the right, an exclusive or and a mask work lane by lane, when the mask leaves out the bits the shift brings in
    from the lane above. -/
theorem pack_shift (n s k : ℕ) (hk : k + s ≤ 64) (f g : ℕ → ℕ) (hf : ∀ i, f i < 2 ^ 64) (hg : ∀ i, g i < 2 ^ 64) :
    (pack n f >>> s ^^^ pack n g) &&& pack n (fun _ => 2 ^ k - 1)
      = pack n (fun i => (f i >>> s ^^^ g i) &&& (2 ^ k - 1)) := by
  induction n generalizing f g with
  | zero => simp [pack]
  | succ n ih =>
    have hm : 2 ^ k - 1 < 2 ^ 64 := lt_of_lt_of_le (Nat.sub_lt (Nat.two_pow_pos k) one_pos) (Nat.pow_le_pow_right (by norm_num) (by omega))
    simp only [pack]
    rw [← ih (fun i => f (i + 1)) (fun i => g (i + 1)) (fun i => hf _) (fun i => hg _)]
    apply Nat.eq_of_testBit_eq
    intro j
    rw [Nat.testBit_two_pow_mul_add _ (Nat.and_lt_two_pow _ hm)]
    simp only [Nat.testBit_and, Nat.testBit_xor, Nat.testBit_shiftRight]
    rw [Nat.testBit_two_pow_mul_add _ (hf 0), Nat.testBit_two_pow_mul_add _ (hg 0), Nat.testBit_two_pow_mul_add _ hm]
    by_cases hj : j < 64
    · simp only [if_pos hj, Nat.testBit_two_pow_sub_one]
      by_cases hjk : j < k
      · rw [if_pos (show s + j < 64 by omega)]
      · simp [hjk]
    · simp only [if_neg hj, if_neg (show ¬ s + j < 64 by omega), Nat.add_sub_assoc (Nat.not_lt.mp hj)]

theorem pack_zero (n : ℕ) : pack n (fun _ => 0) = 0 := by
  rw [← ones_splat, Nat.mul_zero]

/-- An exclusive or works lane by lane. -/
theorem pack_xor (n : ℕ) (f g : ℕ → ℕ) (hf : ∀ i, f i < 2 ^ 64) (hg : ∀ i, g i < 2 ^ 64) :
    pack n f ^^^ pack n g = pack n (fun i => f i ^^^ g i) := by
  induction n generalizing f g with
  | zero => simp [pack]
  | succ n ih =>
    simp only [pack]
    rw [← ih (fun i => f (i + 1)) (fun i => g (i + 1)) (fun i => hf _) (fun i => hg _)]
    apply Nat.eq_of_testBit_eq
    intro j
    rw [Nat.testBit_two_pow_mul_add _ (Nat.xor_lt_two_pow (hf 0) (hg 0)), Nat.testBit_xor, Nat.testBit_xor, Nat.testBit_xor,
      Nat.testBit_two_pow_mul_add _ (hf 0), Nat.testBit_two_pow_mul_add _ (hg 0)]
    split <;> rfl

/-- So does an and, -/
theorem pack_and (n : ℕ) (f g : ℕ → ℕ) (hf : ∀ i, f i < 2 ^ 64) (hg : ∀ i, g i < 2 ^ 64) :
    pack n f &&& pack n g = pack n (fun i => f i &&& g i) := by
  induction n generalizing f g with
  | zero => simp [pack]
  | succ n ih =>
    simp only [pack]
    rw [← ih (fun i => f (i + 1)) (fun i => g (i + 1)) (fun i => hf _) (fun i => hg _)]
    apply Nat.eq_of_testBit_eq
    intro j
    rw [Nat.testBit_two_pow_mul_add _ (Nat.and_lt_two_pow _ (hg 0)), Nat.testBit_and, Nat.testBit_and, Nat.testBit_and,
      Nat.testBit_two_pow_mul_add _ (hf 0), Nat.testBit_two_pow_mul_add _ (hg 0)]
    split <;> rfl

/-- and an or. -/
theorem pack_or (n : ℕ) (f g : ℕ → ℕ) (hf : ∀ i, f i < 2 ^ 64) (hg : ∀ i, g i < 2 ^ 64) :
    pack n f ||| pack n g = pack n (fun i => f i ||| g i) := by
  induction n generalizing f g with
  | zero => simp [pack]
  | succ n ih =>
    simp only [pack]
    rw [← ih (fun i => f (i + 1)) (fun i => g (i + 1)) (fun i => hf _) (fun i => hg _)]
    apply Nat.eq_of_testBit_eq
    intro j
    rw [Nat.testBit_two_pow_mul_add _ (Nat.or_lt_two_pow (hf 0) (hg 0)), Nat.testBit_or, Nat.testBit_or, Nat.testBit_or,
      Nat.testBit_two_pow_mul_add _ (hf 0), Nat.testBit_two_pow_mul_add _ (hg 0)]
    split <;> rfl

/-- Equal packed numbers have equal lanes. -/
theorem pack_inj {n : ℕ} {f g : ℕ → ℕ} (hf : ∀ i, f i < 2 ^ 64) (hg : ∀ i, g i < 2 ^ 64) (h : pack n f = pack n g) {i : ℕ} (hi : i < n) :
    f i = g i := by
  induction n generalizing f g i with
  | zero => exact absurd hi (Nat.not_lt_zero i)
  | succ n ih =>
    simp only [pack] at h
    have h1 := hf 0
    have h2 := hg 0
    match i with
    | 0 => omega
    | i + 1 => exact ih (f := fun i => f (i + 1)) (g := fun i => g (i + 1)) (fun i => hf _) (fun i => hg _) (by omega) (by omega)

end Cert.Proof.Lanes

end
-- ==== Proof.Rounds.lean ====
/-
  The generator run on many counters at once, packed side by side in one number.
-/
module

public import proofs.«01_k».proof.Proof.Lanes

@[expose] public section

namespace Cert.Proof.Rounds

open Cert.Proof.Threefry Cert.Proof.Lanes

/-- The low 32 bits of every lane. -/
def low (n : ℕ) : ℕ := ones n * (2 ^ 32 - 1)

/-- One round on `n` lanes. The second word times `2^32 + 1` is the word written twice, which shifted to the right is the
    rotated word below the bits the mask takes away. -/
def round (n r : ℕ) (p : ℕ × ℕ) : ℕ × ℕ :=
  (p.1 + p.2, ((p.2 * 4294967297) >>> (32 - r) ^^^ (p.1 + p.2)) &&& low n)

/-- Words added to the pair in every lane. -/
def add (n a b : ℕ) (p : ℕ × ℕ) : ℕ × ℕ := (p.1 + ones n * a, (p.2 + ones n * b) &&& low n)

/-- Four rounds. -/
def rounds (n r₁ r₂ r₃ r₄ : ℕ) (p : ℕ × ℕ) : ℕ × ℕ := round n r₄ (round n r₃ (round n r₂ (round n r₁ p)))

/-- The pair of packed numbers holds the pairs of words `w`: the second word as it is, the first up to multiples of `2^32`,
    of which there are less than `k`. -/
def Holds (k n : ℕ) (p : ℕ × ℕ) (w : ℕ → BitVec 32 × BitVec 32) : Prop :=
  ∃ f g : ℕ → ℕ, p.1 = pack n f ∧ p.2 = pack n g ∧ (∀ i, f i < k * 2 ^ 32) ∧ (∀ i, BitVec.ofNat 32 (f i) = (w i).1) ∧
    ∀ i, g i = (w i).2.toNat

/-- A word written twice and shifted to the right ends in the word rotated to the left. -/
theorem rot_twice (r : ℕ) (hr : r ≤ 32) (b : BitVec 32) : BitVec.ofNat 32 ((b.toNat * 4294967297) >>> (32 - r)) = rot r b := by
  apply BitVec.eq_of_getLsbD_eq
  intro j hj
  rw [show b.toNat * 4294967297 = 2 ^ 32 * b.toNat + b.toNat by ring, BitVec.getLsbD_ofNat, Nat.testBit_shiftRight,
    Nat.testBit_two_pow_mul_add _ b.isLt, rot, BitVec.getLsbD_or, BitVec.getLsbD_shiftLeft, BitVec.getLsbD_ushiftRight,
    BitVec.testBit_toNat, BitVec.testBit_toNat]
  by_cases h : j < r
  · simp [hj, h, show 32 - r + j < 32 by omega]
  · rw [if_neg (by omega), show 32 - r + j - 32 = j - r by omega]
    simp [hj, h, BitVec.getLsbD_of_ge b (32 - r + j) (by omega)]

theorem and_low (x : ℕ) : x &&& (2 ^ 32 - 1) = (BitVec.ofNat 32 x).toNat := by
  rw [Nat.and_two_pow_sub_one_eq_mod, BitVec.toNat_ofNat]

variable {k n : ℕ} {p : ℕ × ℕ} {w : ℕ → BitVec 32 × BitVec 32}

theorem Holds.round (h : Holds k n p w) (r : ℕ) (hr : r ≤ 32) (hk : k < 2 ^ 31) :
    Holds (k + 1) n (round n r p) (fun i => mix xrL r (w i)) := by
  obtain ⟨f, g, e1, e2, hf, hw, hg⟩ := h
  have hl : ∀ i, g i < 2 ^ 32 := fun i => by rw [hg i]; exact (w i).2.isLt
  refine ⟨fun i => f i + g i, fun i => ((g i * 4294967297) >>> (32 - r) ^^^ (f i + g i)) &&& (2 ^ 32 - 1), ?_, ?_, fun i => ?_, fun i => ?_,
    fun i => ?_⟩
  · rw [Rounds.round, e1, e2, pack_add]
  · simp only [Rounds.round, low]
    rw [e1, e2, pack_add, pack_mul, ones_splat]
    refine pack_shift n (32 - r) 32 (by omega) _ _ (fun i => ?_) fun i => ?_
    · have := hl i
      omega
    · have := hl i
      have := hf i
      omega
  · have := hl i
    have := hf i
    show f i + g i < _
    omega
  · show BitVec.ofNat 32 (f i + g i) = (w i).1 + (w i).2
    rw [BitVec.ofNat_add, hw, hg, BitVec.ofNat_toNat, BitVec.setWidth_eq]
  · show ((g i * 4294967297) >>> (32 - r) ^^^ (f i + g i)) &&& (2 ^ 32 - 1) = (rot r (w i).2 ^^^ ((w i).1 + (w i).2)).toNat
    rw [and_low, BitVec.ofNat_xor, hg, rot_twice r hr, BitVec.ofNat_add, hw, BitVec.ofNat_toNat, BitVec.setWidth_eq]

theorem Holds.add (h : Holds k n p w) (a b : ℕ) (ha : a < 2 ^ 32) (hb : b < 2 ^ 33) :
    Holds (k + 1) n (add n a b p) (fun i => ((w i).1 + BitVec.ofNat 32 a, (w i).2 + BitVec.ofNat 32 b)) := by
  obtain ⟨f, g, e1, e2, hf, hw, hg⟩ := h
  refine ⟨fun i => f i + a, fun i => (g i + b) &&& (2 ^ 32 - 1), ?_, ?_, fun i => ?_, fun i => ?_, fun i => ?_⟩
  · rw [Rounds.add, e1, ones_splat, pack_add]
  · simp only [Rounds.add, low]
    rw [e2, ones_splat, pack_add, ones_splat]
    refine pack_and n _ _ (fun i => ?_) (fun _ => by norm_num)
    have := (w i).2.isLt
    rw [hg]
    omega
  · have := hf i
    show f i + a < _
    omega
  · rw [BitVec.ofNat_add, hw]
  · show (g i + b) &&& (2 ^ 32 - 1) = ((w i).2 + BitVec.ofNat 32 b).toNat
    rw [and_low, BitVec.ofNat_add, hg, BitVec.ofNat_toNat, BitVec.setWidth_eq]

theorem Holds.rounds (h : Holds k n p w) (r₁ r₂ r₃ r₄ : ℕ) (h₁ : r₁ ≤ 32) (h₂ : r₂ ≤ 32) (h₃ : r₃ ≤ 32) (h₄ : r₄ ≤ 32) (hk : k < 2 ^ 30) :
    Holds (k + 4) n (rounds n r₁ r₂ r₃ r₄ p) (fun i => quad xrL r₁ r₂ r₃ r₄ (w i)) :=
  (((h.round r₁ h₁ (by omega)).round r₂ h₂ (by omega)).round r₃ h₃ (by omega)).round r₄ h₄ (by omega)

/-- Key words added with a group's number. -/
theorem Holds.inject (h : Holds k n p w) (a b : BitVec 32) (s : ℕ) (hs : s < 10) :
    Holds (k + 1) n (Rounds.add n a.toNat (b.toNat + s) p) (fun i => inject a b (BitVec.ofNat 32 s) (w i)) := by
  have e := h.add a.toNat (b.toNat + s) a.isLt (by have := b.isLt; omega)
  simp only [BitVec.ofNat_add, BitVec.ofNat_toNat, BitVec.setWidth_eq, ← BitVec.add_assoc] at e
  exact e

/-- The counters `c`, packed, through the generator. -/
def generate (n : ℕ) (k1 k2 k3 : ℕ) (c : ℕ) : ℕ × ℕ :=
  add n k3 (k1 + 5) (rounds n 13 15 26 6 (add n k2 (k3 + 4) (rounds n 17 29 16 24 (add n k1 (k2 + 3) (rounds n 13 15 26 6
    (add n k3 (k1 + 2) (rounds n 17 29 16 24 (add n k2 (k3 + 1) (rounds n 13 15 26 6 (add n k1 k2 (0, c)))))))))))

/-- They come out as the generator's words. -/
theorem generate_holds (n : ℕ) (k1 k2 : BitVec 32) (c : ℕ → ℕ) (hc : ∀ i, c i < 2 ^ 32) :
    Holds 27 n (generate n k1.toNat k2.toNat (third k1 k2).toNat (pack n c)) (fun i => threefry xrL k1 k2 (0#32, BitVec.ofNat 32 (c i))) := by
  have h0 : Holds 1 n (0, pack n c) (fun i => (0#32, BitVec.ofNat 32 (c i))) :=
    ⟨fun _ => 0, c, (pack_zero n).symm, rfl, fun _ => by norm_num, fun _ => rfl, fun i => by
      rw [BitVec.toNat_ofNat, Nat.mod_eq_of_lt (hc i)]⟩
  have h1 := h0.add k1.toNat k2.toNat k1.isLt (by have := k2.isLt; omega)
  simp only [BitVec.ofNat_toNat, BitVec.setWidth_eq] at h1
  have even : ∀ {j p w}, Holds j n p w → j < 2 ^ 30 → Holds (j + 4) n (rounds n 13 15 26 6 p) (fun i => quad xrL 13 15 26 6 (w i)) :=
    fun h hj => h.rounds 13 15 26 6 (by omega) (by omega) (by omega) (by omega) hj
  have odd : ∀ {j p w}, Holds j n p w → j < 2 ^ 30 → Holds (j + 4) n (rounds n 17 29 16 24 p) (fun i => quad xrL 17 29 16 24 (w i)) :=
    fun h hj => h.rounds 17 29 16 24 (by omega) (by omega) (by omega) (by omega) hj
  have h2 := (even h1 (by omega)).inject k2 (third k1 k2) 1 (by omega)
  have h3 := (odd h2 (by omega)).inject (third k1 k2) k1 2 (by omega)
  have h4 := (even h3 (by omega)).inject k1 k2 3 (by omega)
  have h5 := (odd h4 (by omega)).inject k2 (third k1 k2) 4 (by omega)
  exact (even h5 (by omega)).inject (third k1 k2) k1 5 (by omega)

/-- The mantissas of the draws, packed. -/
def draw (n : ℕ) (p : ℕ × ℕ) : ℕ := ((p.1 ^^^ p.2) >>> 9 ^^^ 0) &&& (ones n * (2 ^ 23 - 1))

theorem draw_eq (h : Holds 27 n p w) : draw n p = pack n (fun i => (((w i).1 ^^^ (w i).2) >>> 9).toNat) := by
  obtain ⟨f, g, e1, e2, hf, hw, hg⟩ := h
  have hl : ∀ i, g i < 2 ^ 32 := fun i => by rw [hg i]; exact (w i).2.isLt
  have hf' : ∀ i, f i < 2 ^ 64 := fun i => (hf i).trans (by norm_num)
  have hg' : ∀ i, g i < 2 ^ 64 := fun i => (hl i).trans (by norm_num)
  rw [draw, e1, e2, pack_xor n f g hf' hg', ← pack_zero n, ones_splat,
    pack_shift n 9 23 (by norm_num) _ _ (fun i => Nat.xor_lt_two_pow (hf' i) (hg' i)) (fun _ => by norm_num)]
  refine congrArg (pack n) (funext fun i => ?_)
  have e : ((w i).1 ^^^ (w i).2).toNat = (f i ^^^ g i) % 2 ^ 32 := by
    rw [← BitVec.toNat_ofNat, BitVec.ofNat_xor, hw, hg, BitVec.ofNat_toNat, BitVec.setWidth_eq]
  rw [BitVec.toNat_ushiftRight, e, Nat.xor_zero, Nat.and_two_pow_sub_one_eq_mod, Nat.shiftRight_eq_div_pow, Nat.shiftRight_eq_div_pow]
  omega

end Cert.Proof.Rounds

end
-- ==== Proof.Sums.lean ====
/-
  The sums of the draws' mantissas for many counters at once, and a test that every one of them is small.
-/
module

public import proofs.«01_k».proof.Proof.Rounds
public import proofs.«01_k».proof.Proof.Model

@[expose] public section

namespace Cert.Proof.Sums

open Cert.Proof.Threefry Cert.Proof.Lanes Cert.Proof.Rounds Cert.Proof.Model

/-- The mantissa of the `m`-th draw for the element numbered `c`. -/
def word (c : BitVec 32) (m : ℕ) : ℕ := (mant (subkey m).1 (subkey m).2 c).toNat

/-- The same for the packed counters `c`. -/
def words (n c m : ℕ) : ℕ :=
  draw n (generate n (subkey m).1.toNat (subkey m).2.toNat (third (subkey m).1 (subkey m).2).toNat c)

theorem word_lt (c : BitVec 32) (m : ℕ) : word c m < 2 ^ 23 := mant_lt _ _ _

theorem words_eq (n : ℕ) (c : ℕ → ℕ) (hc : ∀ i, c i < 2 ^ 32) (m : ℕ) :
    words n (pack n c) m = pack n (fun i => word (BitVec.ofNat 32 (c i)) m) :=
  draw_eq (generate_holds n _ _ c hc)

/-- The sum of the first draws' mantissas for the element numbered `c`. -/
def total (c : BitVec 32) : ℕ → ℕ
  | 0 => 0
  | m + 1 => total c m + word c m

/-- The same sums for the packed counters `c`. -/
def totals (n c : ℕ) : ℕ → ℕ
  | 0 => 0
  | m + 1 => totals n c m + words n c m

theorem totals_eq (n : ℕ) (c : ℕ → ℕ) (hc : ∀ i, c i < 2 ^ 32) (m : ℕ) :
    totals n (pack n c) m = pack n (fun i => total (BitVec.ofNat 32 (c i)) m) := by
  induction m with
  | zero => exact (pack_zero n).symm
  | succ m ih =>
    rw [totals, ih, words_eq n c hc, pack_add]
    rfl

theorem total_le (c : BitVec 32) (m : ℕ) : total c m ≤ m * 2 ^ 23 := by
  induction m with
  | zero => exact le_of_eq (Nat.zero_mul _).symm
  | succ m ih =>
    have := word_lt c m
    rw [total]
    omega

/-- Whether, for each of the `n` counters from `b * n` on, the first 38 mantissas add up to 28 times `2^23` or less: no lane
    reaches `2^36` after `2^36 - 1` less that bound is added. -/
def small (n b : ℕ) : Bool :=
  Nat.beq ((totals n (iota n + ones n * (b * n)) 38 + ones n * (2 ^ 36 - 1 - 28 * 2 ^ 23)) &&& ones n * 2 ^ 36) 0

/-- The test tells the truth. -/
theorem total_of_small {n b : ℕ} (h : small n b = true) (hb : (b + 1) * n ≤ 2 ^ 32) {i : ℕ} (hi : i < n) :
    total (BitVec.ofNat 32 (i + b * n)) 38 ≤ 28 * 2 ^ 23 := by
  have hn : i + b * n < 2 ^ 32 := by
    rw [Nat.add_mul, Nat.one_mul] at hb
    omega
  have hp : iota n + ones n * (b * n) = pack n (fun i => (i + b * n) % 2 ^ 32) := by
    rw [iota_eq, ones_splat, pack_add]
    refine pack_congr fun j hj => (Nat.mod_eq_of_lt ?_).symm
    rw [Nat.add_mul, Nat.one_mul] at hb
    omega
  have hs : ∀ j, total (BitVec.ofNat 32 ((j + b * n) % 2 ^ 32)) 38 + (2 ^ 36 - 1 - 28 * 2 ^ 23) < 2 ^ 37 := fun j => by
    have := total_le (BitVec.ofNat 32 ((j + b * n) % 2 ^ 32)) 38
    omega
  have e := Nat.eq_of_beq_eq_true h
  rw [hp, totals_eq n _ (fun i => Nat.mod_lt _ (by norm_num)), ones_splat, pack_add, ones_splat,
    pack_and n _ _ (fun j => (hs j).trans (by norm_num)) (fun _ => by norm_num), ← pack_zero n] at e
  have e' := pack_inj (fun j => lt_of_le_of_lt Nat.and_le_right (by norm_num)) (fun _ => by norm_num) e hi
  have hs' := hs i
  simp only [Nat.mod_eq_of_lt hn] at e' hs'
  by_contra hlt
  have ht : (total (BitVec.ofNat 32 (i + b * n)) 38 + (2 ^ 36 - 1 - 28 * 2 ^ 23)).testBit 36 = true := by
    rw [Nat.testBit_eq_decide_div_mod_eq]
    simp only [decide_eq_true_eq]
    omega
  have e2 := congrArg (fun x => x.testBit 36) e'
  simp only [Nat.testBit_and, ht, Nat.testBit_two_pow_self, Nat.zero_testBit] at e2
  exact absurd e2 (by decide)

end Cert.Proof.Sums

end
-- ==== Proof.Marks.lean ====
/-
  A test, for every neuron at once, that one of the last three time steps drew mantissas so large that its first factors'
  product is far from small.
-/
module

public import proofs.«01_k».proof.Proof.Sums

@[expose] public section

namespace Cert.Proof.Marks

open Cert.Proof.Threefry Cert.Proof.Lanes Cert.Proof.Rounds Cert.Proof.Model Cert.Proof.Sums

/-- The `m`-th draw of the element numbered `c` has a mantissa of `2^e` or more. -/
abbrev Hit (e m c : ℕ) : Prop := 2 ^ e ≤ word (BitVec.ofNat 32 c) m

/-- A mark in a lane: bit 23 where the proposition holds. -/
def mark (p : ℕ → Prop) [DecidablePred p] (i : ℕ) : ℕ := if p i then 2 ^ 23 else 0

theorem mark_lt (p : ℕ → Prop) [DecidablePred p] (i : ℕ) : mark p i < 2 ^ 64 := by
  unfold mark
  split <;> norm_num

/-- The counters of all neurons at time step `k`, packed. -/
def counters (n k : ℕ) : ℕ := iota n * 256 + ones n * k

/-- The marks of the neurons whose `m`-th draw at time step `k` has a mantissa of `2^e` or more: adding what is missing from
    `2^e` to `2^23` carries into bit 23. -/
def hits (n e m k : ℕ) : ℕ := (words n (counters n k) m + ones n * (2 ^ 23 - 2 ^ e)) &&& ones n * 2 ^ 23

theorem and_bit (x j : ℕ) : x &&& 2 ^ j = if x.testBit j = true then 2 ^ j else 0 := by
  apply Nat.eq_of_testBit_eq
  intro b
  rw [Nat.testBit_and, Nat.testBit_two_pow]
  by_cases hb : j = b
  · subst hb
    by_cases hx : x.testBit j = true <;> simp [hx, Nat.testBit_two_pow_self]
  · split <;> simp [hb, Nat.testBit_two_pow]

/-- A number below `2^23` carries into bit 23 when it reaches the bound. -/
theorem carries {w t : ℕ} (hw : w < 2 ^ 23) (ht : t ≤ 2 ^ 23) : (w + (2 ^ 23 - t)).testBit 23 = true ↔ t ≤ w := by
  rw [Nat.testBit_eq_decide_div_mod_eq]
  simp only [decide_eq_true_eq]
  omega

theorem hits_eq {n k : ℕ} (hn : n ≤ 16384) (hk : k < 256) (e m : ℕ) (he : e ≤ 23) :
    hits n e m k = pack n (mark fun i => Hit e m ((i * 256 + k) % 2 ^ 32)) := by
  have hp : counters n k = pack n (fun i => (i * 256 + k) % 2 ^ 32) := by
    rw [counters, iota_eq, pack_mul, ones_splat, pack_add]
    exact pack_congr fun i hi => (Nat.mod_eq_of_lt (by omega)).symm
  have hw := fun i => word_lt (BitVec.ofNat 32 ((i * 256 + k) % 2 ^ 32)) m
  have h2 : 2 ^ e ≤ 2 ^ 23 := Nat.pow_le_pow_right (by norm_num) he
  rw [hits, hp, words_eq n _ (fun i => Nat.mod_lt _ (by norm_num)), ones_splat, pack_add, ones_splat,
    pack_and n _ _ (fun i => lt_of_lt_of_le (Nat.add_lt_add_of_lt_of_le (hw i) (Nat.sub_le _ _)) (by norm_num)) (fun _ => by norm_num)]
  refine congrArg (pack n) (funext fun i => ?_)
  rw [and_bit]
  exact if_congr (carries (hw i) h2) rfl rfl

theorem marks_and (n : ℕ) (p q : ℕ → Prop) [DecidablePred p] [DecidablePred q] :
    pack n (mark p) &&& pack n (mark q) = pack n (mark fun i => p i ∧ q i) := by
  rw [pack_and n _ _ (mark_lt p) (mark_lt q)]
  refine congrArg (pack n) (funext fun i => ?_)
  unfold mark
  by_cases hp : p i <;> by_cases hq : q i <;> simp [hp, hq]

theorem marks_or (n : ℕ) (p q : ℕ → Prop) [DecidablePred p] [DecidablePred q] :
    pack n (mark p) ||| pack n (mark q) = pack n (mark fun i => p i ∨ q i) := by
  rw [pack_or n _ _ (mark_lt p) (mark_lt q)]
  refine congrArg (pack n) (funext fun i => ?_)
  unfold mark
  by_cases hp : p i <;> by_cases hq : q i <;> simp [hp, hq]

/-- What the test asks of a neuron at time step `k + 2`: a large first draw there, or two large ones one step before, or three
    two steps before. The exponents of the bounds are 14 less than full in all, each time. -/
def Large (i k : ℕ) : Prop :=
  Hit 9 0 (i * 256 + (k + 2)) ∨ (Hit 16 0 (i * 256 + (k + 1)) ∧ Hit 16 1 (i * 256 + (k + 1)))
    ∨ (Hit 18 0 (i * 256 + k) ∧ Hit 18 1 (i * 256 + k) ∧ Hit 19 2 (i * 256 + k))

/-- The test, for all `n` neurons at a time step. -/
def large (n k : ℕ) : Bool :=
  Nat.beq (hits n 9 0 (k + 2) ||| ((hits n 16 0 (k + 1) &&& hits n 16 1 (k + 1))
    ||| (hits n 18 0 k &&& (hits n 18 1 k &&& hits n 19 2 k)))) (ones n * 2 ^ 23)

/-- The test tells the truth. -/
theorem large_of_test {n k : ℕ} (h : large n k = true) (hn : n ≤ 16384) (hk : k < 254) {i : ℕ} (hi : i < n) : Large i k := by
  have e := Nat.eq_of_beq_eq_true h
  simp only [hits_eq hn (show k + 2 < 256 by omega) _ _ (show 9 ≤ 23 by omega), hits_eq hn (show k + 1 < 256 by omega) _ _ (show 16 ≤ 23 by omega),
    hits_eq hn (show k < 256 by omega) _ _ (show 18 ≤ 23 by omega), hits_eq hn (show k < 256 by omega) _ _ (show 19 ≤ 23 by omega),
    marks_and, marks_or, ones_splat] at e
  have e' := pack_inj (mark_lt _) (fun _ => by norm_num) e hi
  have m0 : (i * 256 + (k + 2)) % 2 ^ 32 = i * 256 + (k + 2) := Nat.mod_eq_of_lt (by omega)
  have m1 : (i * 256 + (k + 1)) % 2 ^ 32 = i * 256 + (k + 1) := Nat.mod_eq_of_lt (by omega)
  have m2 : (i * 256 + k) % 2 ^ 32 = i * 256 + k := Nat.mod_eq_of_lt (by omega)
  simp only [mark, m0, m1, m2] at e'
  by_contra hno
  exact absurd ((if_neg hno).symm.trans e') (by norm_num)

end Cert.Proof.Marks

end
-- ==== Proof.Small.lean ====
/-
  The tests of Sums.lean and Marks.lean, evaluated on all the counters the reference draws for: 16384 neurons times 256 time
  steps.
-/
module

public import proofs.«01_k».proof.Proof.Marks
public import Mathlib.Tactic.IntervalCases

@[expose] public section

namespace Cert.Proof.Small

open Cert.Proof.Sums Cert.Proof.Marks

set_option maxHeartbeats 4000000 in
/-- The test succeeds on each of the 128 stretches of 32768 counters. -/
theorem small_all (b : ℕ) (hb : b < 128) : small 32768 b = true := by
  interval_cases b <;> decide +kernel

/-- So every element's first 38 mantissas add up to 28 times `2^23` or less. -/
theorem total_small {k : ℕ} (hk : k < 2 ^ 22) : total (BitVec.ofNat 32 k) 38 ≤ 28 * 2 ^ 23 := by
  have h := total_of_small (small_all (k / 32768) (by omega)) (by omega) (Nat.mod_lt k (by norm_num))
  rwa [Nat.mod_add_div'] at h

set_option maxHeartbeats 4000000 in
/-- The second test succeeds at every time step from 39 on. -/
theorem large_all (k : ℕ) (h : 37 ≤ k) (hk : k < 254) : large 16384 k = true := by
  interval_cases k <;> decide +kernel

end Cert.Proof.Small

end
-- ==== Proof.Bound.lean ====
/-
  The kernel's bound of 40 factors does not show in the spikes. For rates below ten the sum of logarithms is not above the
  negated rate after 38 factors, whatever the element, so no count changes after 40. For larger rates every neuron spikes at
  every time step from 39 on, by samples of the last three steps, with few factors; and before step 39 a count of 40 reaches
  past the step already.
-/
module

public import proofs.«01_k».proof.Proof.Small

@[expose] public section

noncomputable section

namespace Cert.Proof.Bound

open Idealize.ShloMosaic Cert.Proof.Threefry Cert.Proof.Model Cert.Proof.Sums Cert.Proof.Marks Cert.Proof.Small

/-- A draw's logarithm is at most the draw less one. -/
theorem log_le (w : BitVec 32) (hw : w.toNat < 2 ^ 23) : Ideal.log (unit w) ≤ (((w.toNat : ℝ) / 2 ^ 23 - 1 : ℝ) : EReal) := by
  rw [unit_eq w hw, Ideal.log_coe]
  split
  · exact bot_le
  · rename_i h
    exact EReal.coe_le_coe_iff.mpr (Real.log_le_sub_one_of_pos (not_le.mp h))

/-- A sum of logarithms is at most the sum of the draws less their number. -/
theorem logp_le (c : BitVec 32) (m : ℕ) : logp subkey c m ≤ (((total c m : ℝ) / 2 ^ 23 - m : ℝ) : EReal) := by
  induction m with
  | zero => simp [logp, total]
  | succ m ih =>
    have h := log_le (mant (subkey m).1 (subkey m).2 c) (mant_lt _ _ _)
    rw [logp]
    refine (add_le_add ih h).trans (le_of_eq ?_)
    rw [← EReal.coe_add, total, word]
    congr 1
    push_cast
    ring

/-- After 38 factors it is minus ten or less. -/
theorem logp_ten {k : ℕ} (hk : k < 2 ^ 22) : logp subkey (BitVec.ofNat 32 k) 38 ≤ ((-10 : ℝ) : EReal) := by
  refine (logp_le _ 38).trans (EReal.coe_le_coe_iff.mpr ?_)
  have h : (total (BitVec.ofNat 32 k) 38 : ℝ) ≤ 28 * 2 ^ 23 := by exact_mod_cast total_small hk
  have h2 : (total (BitVec.ofNat 32 k) 38 : ℝ) / 2 ^ 23 ≤ 28 := (div_le_iff₀ (by positivity)).mpr h
  push_cast
  linarith

/-- Counting further than 40 factors changes nothing. -/
theorem count_forty {k : ℕ} (hk : k < 2 ^ 22) {lam : EReal} (hl : lam ≤ ((10 : ℝ) : EReal)) {m : ℕ} (hm : 40 ≤ m) :
    count subkey (BitVec.ofNat 32 k) (-lam) m = count subkey (BitVec.ofNat 32 k) (-lam) 40 := by
  have h : ¬ -lam < logp subkey (BitVec.ofNat 32 k) 38 := fun h => by
    have h1 := h.trans_le (logp_ten hk)
    rw [EReal.coe_neg] at h1
    exact absurd (EReal.neg_lt_neg_iff.mp h1) (not_lt.mpr hl)
  rw [count_stop subkey _ _ h (show 38 ≤ m by omega), count_stop subkey _ _ h (show 38 ≤ 40 by omega)]

/-- A draw of `2^e` or more has a logarithm of at least minus the missing binary digits. -/
theorem log_ge {e m c : ℕ} (h : Hit e m c) (d : ℕ) (hd : e + d = 23) :
    ((-(d * Real.log 2) : ℝ) : EReal) ≤ Ideal.log (unit (mant (subkey m).1 (subkey m).2 (BitVec.ofNat 32 c))) := by
  have hw : (2 : ℝ) ^ e ≤ ((mant (subkey m).1 (subkey m).2 (BitVec.ofNat 32 c)).toNat : ℝ) := by exact_mod_cast h
  have he : (0 : ℝ) < 2 ^ e := by positivity
  rw [unit_eq _ (mant_lt _ _ _), Ideal.log_coe, if_neg (not_le.mpr (div_pos (he.trans_le hw) (by positivity)))]
  refine EReal.coe_le_coe_iff.mpr ?_
  rw [← Real.log_pow, ← Real.log_inv]
  refine Real.log_le_log (by positivity) ?_
  rw [le_div_iff₀ (by positivity), ← hd, pow_add, mul_comm, mul_assoc, mul_inv_cancel₀ (by positivity), mul_one]
  exact hw

/-- Fourteen binary digits are less than ten in natural logarithms. -/
theorem fourteen : ((-10 : ℝ) : EReal) < ((-(14 * Real.log 2) : ℝ) : EReal) := by
  have h1 : Real.log 2 ≤ Real.log ((47 / 45) ^ 16) := Real.log_le_log (by norm_num) (by norm_num)
  have h2 : Real.log (47 / 45 : ℝ) ≤ 47 / 45 - 1 := Real.log_le_sub_one_of_pos (by norm_num)
  rw [Real.log_pow] at h1
  push_cast at h1
  exact EReal.coe_lt_coe_iff.mpr (by linarith)

variable {lam : EReal}

/-- For rates of ten and above a neuron has, at every time step from 39 on, one of the last three steps whose first sums
    of logarithms are above the negated rate as far as the step in hand. -/
theorem early (hl : ((10 : ℝ) : EReal) ≤ lam) {i : ℕ} (hi : i < 16384) {k : ℕ} (h : 39 ≤ k) (hk : k < 256) :
    ∃ d ≤ 2, -lam < logp subkey (BitVec.ofNat 32 (i * 256 + (k - d))) (d + 1) := by
  obtain ⟨b, rfl⟩ : ∃ b, k = b + 2 := ⟨k - 2, by omega⟩
  have hn : -lam ≤ ((-10 : ℝ) : EReal) := by
    rw [EReal.coe_neg]
    exact EReal.neg_le_neg_iff.mpr hl
  have key := hn.trans_lt fourteen
  rcases large_of_test (large_all b (by omega) (by omega)) le_rfl (by omega) hi with h0 | ⟨h0, h1⟩ | ⟨h0, h1, h2⟩
  · refine ⟨0, by omega, key.trans_le ?_⟩
    simp only [logp, zero_add, Nat.sub_zero]
    exact (log_ge h0 14 rfl)
  · refine ⟨1, by omega, key.trans_le ?_⟩
    simp only [logp, zero_add]
    refine le_trans (le_of_eq ?_) (add_le_add (log_ge h0 7 rfl) (log_ge h1 7 rfl))
    rw [← EReal.coe_add]
    congr 1
    push_cast
    ring
  · refine ⟨2, by omega, key.trans_le ?_⟩
    simp only [logp, zero_add]
    refine le_trans (le_of_eq ?_) (add_le_add (add_le_add (log_ge h0 5 rfl) (log_ge h1 5 rfl)) (log_ge h2 4 rfl))
    rw [← EReal.coe_add, ← EReal.coe_add]
    congr 1
    push_cast
    ring

/-- The spikes of a neuron are the same with any bound on the number of factors from 40 on. -/
theorem spike_forty (lam : EReal) {i : ℕ} (hi : i < 16384) {m : ℕ} (hm : 40 ≤ m) (hm' : m < 2 ^ 32) {k : ℕ} (hk : k < 256) :
    Spike (fun j => count subkey (BitVec.ofNat 32 (i * 256 + j)) (-lam) m) k
      ↔ Spike (fun j => count subkey (BitVec.ofNat 32 (i * 256 + j)) (-lam) 40) k := by
  constructor
  · rintro ⟨j, hj, h⟩
    by_cases hl : lam ≤ ((10 : ℝ) : EReal)
    · exact ⟨j, hj, by simpa only [count_forty (show i * 256 + j < 2 ^ 22 by omega) hl hm] using h⟩
    · have hl' := (not_le.mp hl).le
      by_cases hs : k < 39
      · by_cases hc : -lam < logp subkey (BitVec.ofNat 32 (i * 256 + j)) 39
        · have := lt_count subkey _ _ hc (show 39 < 40 by omega) (by omega)
          exact ⟨j, hj, by dsimp only; omega⟩
        · have e1 := count_stop subkey _ _ hc (show 39 ≤ m by omega)
          have e2 := count_stop subkey _ _ hc (show 39 ≤ 40 by omega)
          exact ⟨j, hj, by simpa only [e1, e2] using h⟩
      · obtain ⟨d, hd, hc⟩ := early hl' hi (not_lt.mp hs) hk
        have := lt_count subkey _ _ hc (show d + 1 < 40 by omega) (by omega)
        exact ⟨k - d, by omega, by dsimp only; omega⟩
  · rintro ⟨j, hj, h⟩
    have := count_mono subkey (BitVec.ofNat 32 (i * 256 + j)) (-lam) hm hm'
    exact ⟨j, hj, by dsimp only at h ⊢; omega⟩

end Cert.Proof.Bound

end
-- ==== Proof.lean ====
/-
  The certificate: the claims of Defs.lean from the runs proved under proof/Proof/.
-/
module

public import proofs.«01_k».proof.Defs
public import proofs.«01_k».proof.Proof.K.Run
public import proofs.«01_k».proof.Proof.KI.Value
public import proofs.«01_k».proof.Proof.RI.Post
public import proofs.«01_k».proof.Proof.Bound

@[expose] public section

noncomputable section

namespace Cert.Proof

open Idealize.ShloMosaic Idealize.SL.Sem

/-- The kernel as printed runs and leaves its argument as it was. -/
theorem frame_kernel : Cert.quiescent_Kernel := fun m g _ =>
  (θ_run _ _ _).mono (fun _ h => ⟨fun c => (h.1 c).2, h.2⟩) (K.run_end (F := Bits) m g)

/-- So does its idealization, -/
theorem frame_ideal : Cert.quiescent_KernelIdeal := fun m g _ =>
  (θ_run _ _ _).mono (fun _ h => ⟨fun c => (h.1 c).2, h.2⟩) (KI.run_end (F := Ideal) m g)

/-- and the reference. -/
theorem frame_reference : Cert.quiescent_ReferenceIdeal := fun m g _ =>
  (θ_run _ _ _).mono (fun _ h => ⟨fun c => (h.1 c).2, h.2⟩) (RI.run_end (F := Ideal) m g)

/-- Two one-bit words that are set together are equal. -/
theorem bit_ext (a b : BitVec 1) (h : a = 1#1 ↔ b = 1#1) : a = b := by
  revert a b; decide

/-- On equal arguments the idealized kernel and the reference end with equal results: both are set at the places where the
    neuron's samples have an event after the step, and the two bounds on the number of factors give the same places. -/
theorem algebraic : Cert.algebraic_KernelIdeal_ReferenceIdeal := fun m g m' g' _ hm => by
  refine ⟨fun c x => IntOp.cmpi .ne (KI.spikes m c x) 0#32, (θ_run _ _ _).mono (fun _ h => h.1) (KI.run_end (F := Ideal) m g), ?_⟩
  refine (θ_run _ _ _).mono (fun _ h c => ⟨(h.1 c).1.trans ?_, (h.1 c).2⟩) (RI.run_end (F := Ideal) m' g')
  funext z
  obtain ⟨j, n, rfl⟩ : ∃ (j : Fin 256) (n : Fin 16384), z = ix2 j n := ⟨z 0, z 1, by
    funext a; fin_cases a <;> rfl⟩
  refine bit_ext _ _ ((RI.result_iff m' c j n).trans ((Bound.spike_forty _ n.isLt (by norm_num) (by norm_num) j.isLt).trans
    (Iff.symm ((KI.result_iff m c j n).trans ?_))))
  rw [hm c]
  rfl

theorem claim : Cert.Claim :=
  ⟨Cert.Kernel.Gen.facts, Cert.KernelIdeal.Gen.facts, Cert.ReferenceIdeal.Gen.facts,
    frame_kernel, frame_ideal, frame_reference, trivial, algebraic⟩

end Cert.Proof

end
